-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 4096]⟩ ⟨2, ![1024, 8192]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![1024, 8192]⟩ (Layout.meshBlock [2, 2] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S1024x1024 : Shape := ⟨2, ![1024, 1024]⟩
abbrev S8x64x1024 : Shape := ⟨3, ![8, 64, 1024]⟩
abbrev S8 : Shape := ⟨1, ![8]⟩
abbrev S_ : Shape := ⟨0, ![]⟩
abbrev S512x4096 : Shape := ⟨2, ![512, 4096]⟩
abbrev S512x1024 : Shape := ⟨2, ![512, 1024]⟩
abbrev S64x1024 : Shape := ⟨2, ![64, 1024]⟩
abbrev S1x64x1024 : Shape := ⟨3, ![1, 64, 1024]⟩
abbrev S1 : Shape := ⟨1, ![1]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x1024, .f32⟩
  | .local _ .vmem, ⟨0, _⟩ => ⟨S1024x4096, .f32⟩
  | .local _ .vmem, ⟨1, _⟩ => ⟨S1024x4096, .f32⟩
  | .local _ .vmem, ⟨2, _⟩ => ⟨S1024x1024, .f32⟩
  | .local _ .vmem, ⟨3, _⟩ => ⟨S8x64x1024, .bf16⟩
  | .local _ .vmem, ⟨4, _⟩ => ⟨S8x64x1024, .bf16⟩
  | .local _ .vmem, ⟨5, _⟩ => ⟨S8x64x1024, .bf16⟩
  | .local _ .vmem, ⟨6, _⟩ => ⟨S8x64x1024, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let v20 : Index := Scalar.indexCast v17
  let c0 : Index := 0#32
  ![v20.toNat, 0]
def k0_dev3 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v31 : BitVec 32 := Scalar.muli v6 c2_i32_23
  let v32 : BitVec 32 := Scalar.addi c0_i32_24 v31
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v33 : BitVec 32 := Scalar.muli v5 c1_i32_25
  let v34 : BitVec 32 := Scalar.addi v32 v33
  v34.toNat
def k0_dev4 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v48 : BitVec 32 := Scalar.muli v6 c2_i32_36
  let v49 : BitVec 32 := Scalar.addi c0_i32_37 v48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v50 : BitVec 32 := Scalar.muli v5 c1_i32_38
  let v51 : BitVec 32 := Scalar.addi v49 v50
  v51.toNat
def k0_dev5 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v65 : BitVec 32 := Scalar.muli v6 c2_i32_49
  let v66 : BitVec 32 := Scalar.addi c0_i32_50 v65
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v67 : BitVec 32 := Scalar.muli v5 c1_i32_51
  let v68 : BitVec 32 := Scalar.addi v66 v67
  v68.toNat
def k0_dev6 (d0 : Dev nD) : Nat :=
  let c0_i32_62 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_61 : BitVec 32 := 2#32
  let v82 : BitVec 32 := Scalar.muli v6 c2_i32_61
  let v83 : BitVec 32 := Scalar.addi c0_i32_62 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_63 : BitVec 32 := 1#32
  let v84 : BitVec 32 := Scalar.muli v5 c1_i32_63
  let v85 : BitVec 32 := Scalar.addi v83 v84
  v85.toNat
def k0_dev7 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v99 : BitVec 32 := Scalar.muli v6 c2_i32_73
  let v100 : BitVec 32 := Scalar.addi c0_i32_74 v99
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v101 : BitVec 32 := Scalar.muli v5 c1_i32_75
  let v102 : BitVec 32 := Scalar.addi v100 v101
  v102.toNat
def k0_dev8 (d0 : Dev nD) : Nat :=
  let c0_i32_86 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_85 : BitVec 32 := 2#32
  let v116 : BitVec 32 := Scalar.muli v6 c2_i32_85
  let v117 : BitVec 32 := Scalar.addi c0_i32_86 v116
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_87 : BitVec 32 := 1#32
  let v118 : BitVec 32 := Scalar.muli v5 c1_i32_87
  let v119 : BitVec 32 := Scalar.addi v117 v118
  v119.toNat
def k0_dev9 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v133 : BitVec 32 := Scalar.muli v6 c2_i32_97
  let v134 : BitVec 32 := Scalar.addi c0_i32_98 v133
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v135 : BitVec 32 := Scalar.muli v5 c1_i32_99
  let v136 : BitVec 32 := Scalar.addi v134 v135
  v136.toNat
def k0_dev10 (d0 : Dev nD) : Nat :=
  let c0_i32_110 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_109 : BitVec 32 := 2#32
  let v150 : BitVec 32 := Scalar.muli v6 c2_i32_109
  let v151 : BitVec 32 := Scalar.addi c0_i32_110 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v152 : BitVec 32 := Scalar.muli v5 c1_i32_111
  let v153 : BitVec 32 := Scalar.addi v151 v152
  v153.toNat
def k0_off2 (d0 : Dev nD) (c0_i32_130 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let v176 : BitVec 32 := Scalar.addi v17 c0_i32_130
  let v177 : Index := Scalar.indexCast v176
  let c0_131 : Index := 0#32
  ![v177.toNat, 0]
def k0_dev11 (d0 : Dev nD) : Nat :=
  let c0_i32_140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_139 : BitVec 32 := 2#32
  let v183 : BitVec 32 := Scalar.muli v2 c2_i32_139
  let v184 : BitVec 32 := Scalar.addi c0_i32_140 v183
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_141 : BitVec 32 := 1#32
  let v185 : BitVec 32 := Scalar.muli v7 c1_i32_141
  let v186 : BitVec 32 := Scalar.addi v184 v185
  v186.toNat
def k0_dev12 (d0 : Dev nD) : Nat :=
  let c0_i32_169 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_168 : BitVec 32 := 2#32
  let v216 : BitVec 32 := Scalar.muli v2 c2_i32_168
  let v217 : BitVec 32 := Scalar.addi c0_i32_169 v216
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_170 : BitVec 32 := 1#32
  let v218 : BitVec 32 := Scalar.muli v7 c1_i32_170
  let v219 : BitVec 32 := Scalar.addi v217 v218
  v219.toNat
def k0_dev13 (d0 : Dev nD) : Nat :=
  let c0_i32_198 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_197 : BitVec 32 := 2#32
  let v249 : BitVec 32 := Scalar.muli v2 c2_i32_197
  let v250 : BitVec 32 := Scalar.addi c0_i32_198 v249
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_199 : BitVec 32 := 1#32
  let v251 : BitVec 32 := Scalar.muli v7 c1_i32_199
  let v252 : BitVec 32 := Scalar.addi v250 v251
  v252.toNat
def k0_dev14 (d0 : Dev nD) : Nat :=
  let c0_i32_227 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_226 : BitVec 32 := 2#32
  let v282 : BitVec 32 := Scalar.muli v2 c2_i32_226
  let v283 : BitVec 32 := Scalar.addi c0_i32_227 v282
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_228 : BitVec 32 := 1#32
  let v284 : BitVec 32 := Scalar.muli v7 c1_i32_228
  let v285 : BitVec 32 := Scalar.addi v283 v284
  v285.toNat
def k0_dev15 (d0 : Dev nD) : Nat :=
  let c0_i32_256 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_255 : BitVec 32 := 2#32
  let v315 : BitVec 32 := Scalar.muli v2 c2_i32_255
  let v316 : BitVec 32 := Scalar.addi c0_i32_256 v315
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_257 : BitVec 32 := 1#32
  let v317 : BitVec 32 := Scalar.muli v7 c1_i32_257
  let v318 : BitVec 32 := Scalar.addi v316 v317
  v318.toNat
def k0_dev16 (d0 : Dev nD) : Nat :=
  let c0_i32_285 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_284 : BitVec 32 := 2#32
  let v348 : BitVec 32 := Scalar.muli v2 c2_i32_284
  let v349 : BitVec 32 := Scalar.addi c0_i32_285 v348
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_286 : BitVec 32 := 1#32
  let v350 : BitVec 32 := Scalar.muli v7 c1_i32_286
  let v351 : BitVec 32 := Scalar.addi v349 v350
  v351.toNat
def k0_dev17 (d0 : Dev nD) : Nat :=
  let c0_i32_314 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_313 : BitVec 32 := 2#32
  let v381 : BitVec 32 := Scalar.muli v2 c2_i32_313
  let v382 : BitVec 32 := Scalar.addi c0_i32_314 v381
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_315 : BitVec 32 := 1#32
  let v383 : BitVec 32 := Scalar.muli v7 c1_i32_315
  let v384 : BitVec 32 := Scalar.addi v382 v383
  v384.toNat
def k0_dev18 (d0 : Dev nD) : Nat :=
  let c0_i32_343 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_342 : BitVec 32 := 2#32
  let v414 : BitVec 32 := Scalar.muli v2 c2_i32_342
  let v415 : BitVec 32 := Scalar.addi c0_i32_343 v414
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_344 : BitVec 32 := 1#32
  let v416 : BitVec 32 := Scalar.muli v7 c1_i32_344
  let v417 : BitVec 32 := Scalar.addi v415 v416
  v417.toNat
def k0_off3 (d0 : Dev nD) (c0_i32_363 : BitVec 32) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c512_i32_13 : BitVec 32 := 512#32
  let v19 : BitVec 32 := Scalar.muli v18 c512_i32_13
  let v439 : BitVec 32 := Scalar.addi v19 c0_i32_363
  let v440 : Index := Scalar.indexCast v439
  let c0_364 : Index := 0#32
  ![v440.toNat, 0]
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S1024x8192, .f32⟩
  | .hbm, ⟨2, _⟩ => ⟨S8192x1024, .f32⟩
  | .hbm, ⟨3, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
# The kernel's body as four loops

The kernel is printed as one straight line of statements: its four Python loops over the eight chunks are unrolled.
Here each loop's body is written once, at a chunk `k`, over the kernel's own buffers; `each` runs such a body for
every chunk in turn; and `body_eq_steps` says that the printed body is the opening (the handshake and the matrix
product), then the four loops: send every chunk along the first mesh axis; receive it, add, and relay the sum along the second;
receive the other half's sums; wait for every send.
-/
module

public import proofs.«01_k».proof.Proof.Gen.KernelIdeal
public import proofs.«01_k».proof.Proof.Gen.KernelIdeal.Skeleton

@[expose] public section

noncomputable section

namespace Cert.KProof

open Cert.KernelIdeal Cert.KernelIdeal.Gen
open Idealize.ShloMosaic
open Idealize.SL.Sem

variable {F : FTy → Type} [FloatOps F]

/-- The kernel's programs, at float values `F`. -/
abbrev KProg (F : FTy → Type) (α : Type) : Type 1 := Prog (TpuEff nD τ sig (Elt F) Λ₀ .tc) α

/-! ## The kernel's buffers -/

abbrev dyM : Memref sig .tc .vmem S1024x4096 .f32 := Memref.whole cc0_stg0_0
abbrev wM : Memref sig .tc .vmem S1024x4096 .f32 := Memref.whole cc0_stg1_0
abbrev oM : Memref sig .tc .vmem S1024x1024 .f32 := Memref.whole cc0_stg2_0
/-- What leaves along the first mesh axis, and where it lands. -/
abbrev xsM : Memref sig .tc .vmem S8x64x1024 .bf16 := Memref.whole cc0_scratch0
abbrev xrM : Memref sig .tc .vmem S8x64x1024 .bf16 := Memref.whole cc0_scratch1
/-- What leaves along the second mesh axis, and where it lands. -/
abbrev ysM : Memref sig .tc .vmem S8x64x1024 .bf16 := Memref.whole cc0_scratch2
abbrev yrM : Memref sig .tc .vmem S8x64x1024 .bf16 := Memref.whole cc0_scratch3

/-! ## Chunk `k` of a buffer, of a semaphore array, of the product -/

theorem slot_inb (k : Fin 8) : ∀ a, (![k.val, 0, 0] : Fin 3 → Nat) a + S1x64x1024.size a ≤ S8x64x1024.size a := by
  revert k; decide
theorem sem_inb (k : Fin 8) : ∀ a, (![k.val] : Fin 1 → Nat) a + S1.size a ≤ S8.size a := by
  revert k; decide
theorem part_slices (k : Fin 8) : S512x1024.Slices ![64 * k.val, 0] S64x1024 := by
  revert k; decide

/-- Chunk `k` of a buffer of eight, as a load or a store names it. -/
abbrev slotR (k : Fin 8) : Rect S8x64x1024 := Rect.unit (s := S8x64x1024) ![k.val, 0, 0] S1x64x1024.size (slot_inb k)

theorem slot_words (k : Fin 8) : (slotR k).WholeWords (EltTy.packing .bf16) :=
  match k with
  | 0 => wordsbf16_S8x64x1024_S1x64x1024_0_0_0 | 1 => wordsbf16_S8x64x1024_S1x64x1024_1_0_0
  | 2 => wordsbf16_S8x64x1024_S1x64x1024_2_0_0 | 3 => wordsbf16_S8x64x1024_S1x64x1024_3_0_0
  | 4 => wordsbf16_S8x64x1024_S1x64x1024_4_0_0 | 5 => wordsbf16_S8x64x1024_S1x64x1024_5_0_0
  | 6 => wordsbf16_S8x64x1024_S1x64x1024_6_0_0 | 7 => wordsbf16_S8x64x1024_S1x64x1024_7_0_0
theorem slot_packed (k : Fin 8) : (slotR k).PackedRows (EltTy.packing .bf16) :=
  match k with
  | 0 => packedbf16_S8x64x1024_S1x64x1024_0_0_0 | 1 => packedbf16_S8x64x1024_S1x64x1024_1_0_0
  | 2 => packedbf16_S8x64x1024_S1x64x1024_2_0_0 | 3 => packedbf16_S8x64x1024_S1x64x1024_3_0_0
  | 4 => packedbf16_S8x64x1024_S1x64x1024_4_0_0 | 5 => packedbf16_S8x64x1024_S1x64x1024_5_0_0
  | 6 => packedbf16_S8x64x1024_S1x64x1024_6_0_0 | 7 => packedbf16_S8x64x1024_S1x64x1024_7_0_0

/-- Chunk `k` of a buffer of eight, as a copy names it. -/
abbrev slot (M : Memref sig .tc .vmem S8x64x1024 .bf16) (k : Fin 8) : Memref sig .tc .vmem S64x1024 .bf16 :=
  (M.slice (slotR k) (fun _ => rfl)).squeeze S64x1024 squeezes_S1x64x1024_S64x1024

/-- Chunk `k`'s semaphore of an array of eight. -/
abbrev semAt (A : DmaSems sig S8) (k : Fin 8) : DmaSem sig :=
  ((A.slice (Rect.unit (s := S8) ![k.val] S1.size (sem_inb k))).squeeze S_ squeezes_S1_S_).sem

/-- Rows `64 k … 64 k + 63` of the product. -/
def part (k : Fin 8) (p : FVec F S512x1024 .f32) : FVec F S64x1024 .f32 :=
  extractStridedSlice S64x1024 ![64 * k.val, 0] p (part_slices k)
/-- A chunk as it travels: in bf16, in the shape of a buffer's chunk. -/
def pack (v : FVec F S64x1024 .f32) : FVec F S1x64x1024 .bf16 :=
  shapeCast S1x64x1024 (truncf .bf16 v bitsLt_bf16_f32) shapeCasts_S64x1024_S1x64x1024
/-- A chunk that arrived, back in f32. -/
def unpack (v : Vec F S1x64x1024 .bf16) : FVec F S64x1024 .f32 :=
  extf .f32 (shapeCast S64x1024 v shapeCasts_S1x64x1024_S64x1024) bitsLt_bf16_f32

/-! ## The four loops' bodies -/

/-- The neighbour along the first mesh axis, and along the second. -/
def xn (c : Dev nD) : Dev nD := ⟨k0_dev1 c, k0_dev1_lt c⟩
def yn (c : Dev nD) : Dev nD := ⟨k0_dev2 c, k0_dev2_lt c⟩

/-- One store of a chunk into a buffer of eight; the read before it is dead. -/
abbrev putSlot (M : Memref sig .tc .vmem S8x64x1024 .bf16) (hM : M.IsWhole) (k : Fin 8) (v : FVec F S1x64x1024 .bf16) : KProg F PUnit := do
  let _ ← Prog.lift (.load M (slotR k).toLoadRect (View.loadsAt_vmem h_S1x64x1024))
  Prog.lift (.store M (slotR k) v Finset.univ (View.stores_vmem h_S1x64x1024 (hM.storeExact_slice rfl _ (slot_packed k)) (fun _ => rfl)) (.inl rfl))

/-- The copy of chunk `k` of `S` into chunk `k` of `D` on device `n`. -/
abbrev copySlot (S : Memref sig .tc .vmem S8x64x1024 .bf16) (hS : S.IsWhole) (D : Memref sig .tc .vmem S8x64x1024 .bf16) (hD : D.IsWhole)
    (snd rcv : DmaSems sig S8) (n : Dev nD) (k : Fin 8) (hsc : (slot D k).view.ref.isScScratch = false) : KProg F PUnit :=
  Prog.lift (.enqueueDma (slot S k) (.remote (Dev.tc n) (slot D k) (.dma (semAt snd k)) hsc) (.dma (semAt rcv k))
    ((hS.wordExact_slice rfl _ (slot_words k)).reshape _ _) ((hD.wordExact_slice rfl _ (slot_words k)).reshape _ _) ⟨⟨rfl, Or.inl rfl⟩, trivial⟩)

/-- The wait for chunk `k` of `D`, copied from chunk `k` of `S`. -/
abbrev waitSlot (A : DmaSems sig S8) (S : Memref sig .tc .vmem S8x64x1024 .bf16) (hS : S.IsWhole)
    (D : Memref sig .tc .vmem S8x64x1024 .bf16) (hD : D.IsWhole) (k : Fin 8) : KProg F PUnit :=
  Prog.lift (.waitDma2 (semAt A k) (slot S k) (slot D k)
    ((hS.wordExact_slice rfl _ (slot_words k)).reshape _ _) ((hD.wordExact_slice rfl _ (slot_words k)).reshape _ _))

/-- The read of chunk `k` of a buffer of eight. -/
abbrev getSlot (M : Memref sig .tc .vmem S8x64x1024 .bf16) (k : Fin 8) : KProg F (Vec F S1x64x1024 .bf16) :=
  Prog.lift (.load M (slotR k).toLoadRect (View.loadsAt_vmem h_S1x64x1024))

/-- The rows of chunk `k` in the half of the result that this device computes, and in the other half. -/
abbrev ownR (c : Dev nD) (k : Fin 8) : Rect S1024x1024 :=
  Rect.unit (s := S1024x1024) (k0_off2 c (BitVec.ofNat 32 (64 * k.val))) S64x1024.size (k0_off2_inb c k)
abbrev farR (c : Dev nD) (k : Fin 8) : Rect S1024x1024 :=
  Rect.unit (s := S1024x1024) (k0_off3 c (BitVec.ofNat 32 (64 * k.val))) S64x1024.size (k0_off3_inb c k)

/-- The first loop: chunk `k` of the product sent along the first axis. -/
def sendStep (c : Dev nD) (p : FVec F S512x1024 .f32) (k : Fin 8) : KProg F PUnit := do
  putSlot xsM (Memref.isWhole_whole _) k (pack (part k p))
  copySlot xsM (Memref.isWhole_whole _) xrM (Memref.isWhole_whole _) cc0_scratch4 cc0_scratch5 (xn c) k rfl

/-- The second: the neighbour's chunk `k` received and added; the sum stored and sent along the second axis. -/
def relayStep (c : Dev nD) (p : FVec F S512x1024 .f32) (k : Fin 8) : KProg F PUnit := do
  waitSlot cc0_scratch5 xsM (Memref.isWhole_whole _) xrM (Memref.isWhole_whole _) k
  let v ← getSlot xrM k
  let _ ← Prog.lift (.load oM (ownR c k).toLoadRect (View.loadsAt_vmem h_S64x1024))
  Prog.lift (.store oM (ownR c k) (addf (part k p) (unpack v)) Finset.univ (View.stores_vmem_bits_univ h_S64x1024 rfl) (.inl rfl))
  putSlot ysM (Memref.isWhole_whole _) k (pack (addf (part k p) (unpack v)))
  copySlot ysM (Memref.isWhole_whole _) yrM (Memref.isWhole_whole _) cc0_scratch6 cc0_scratch7 (yn c) k rfl

/-- The third: the other half's chunk `k` received and stored. -/
def finishStep (c : Dev nD) (k : Fin 8) : KProg F PUnit := do
  waitSlot cc0_scratch7 ysM (Memref.isWhole_whole _) yrM (Memref.isWhole_whole _) k
  let v ← getSlot yrM k
  let _ ← Prog.lift (.load oM (farR c k).toLoadRect (View.loadsAt_vmem h_S64x1024))
  Prog.lift (.store oM (farR c k) (unpack v) Finset.univ (View.stores_vmem_bits_univ h_S64x1024 rfl) (.inl rfl))

/-- The fourth: the two sends of chunk `k` waited for. -/
def drainStep (k : Fin 8) : KProg F PUnit := do
  waitSlot cc0_scratch4 xrM (Memref.isWhole_whole _) xsM (Memref.isWhole_whole _) k
  waitSlot cc0_scratch6 yrM (Memref.isWhole_whole _) ysM (Memref.isWhole_whole _) k

/-- A loop's body for every chunk of a list in turn. -/
def each {A : Type} (f : A → KProg F PUnit) : List A → KProg F PUnit
  | [] => pure ⟨⟩
  | k :: ks => do f k; each f ks

/-- The eight chunks, in the order the kernel takes them. -/
abbrev chunks : List (Fin 8) := [0, 1, 2, 3, 4, 5, 6, 7]

/-- The rows of `dy` that this device multiplies. -/
abbrev dyR (c : Dev nD) : Rect S1024x4096 := Rect.unit (s := S1024x4096) (k0_off1 c) S512x4096.size (k0_off1_inb c)
abbrev wR : Rect S1024x4096 := Rect.unit (s := S1024x4096) ![0, 0] S1024x4096.size inb_S1024x4096_S1024x4096_0_0

/-- The runtime's barrier semaphore. -/
abbrev barS : Sem sig := (SemArray.scalar (sig.barrier 0 rfl) : Sems sig S_).sem

/-- The body: the handshake with both neighbours, the product, the four loops. -/
def steps : KProg F PUnit := do
  let c ← Prog.lift .deviceId
  semSignalWord (xn c) barS 1#32
  semSignalWord (yn c) barS 1#32
  semWaitWord barS 2#32
  let dy ← Prog.lift (.load dyM (dyR c).toLoadRect (View.loadsAt_vmem h_S512x4096))
  let w ← Prog.lift (.load wM wR.toLoadRect (View.loadsAt_vmem h_S1024x4096))
  each (sendStep c (k0_pay1 dy w)) chunks
  each (relayStep c (k0_pay1 dy w)) chunks
  each (finishStep c) chunks
  each drainStep chunks

/-- The printed body, at the kernel's buffers. -/
abbrev printed : KProg F PUnit :=
  cc0_body dyM (Memref.isWhole_whole _) wM (Memref.isWhole_whole _) oM (Memref.isWhole_whole _)
    xsM (Memref.isWhole_whole _) xrM (Memref.isWhole_whole _) ysM (Memref.isWhole_whole _) yrM (Memref.isWhole_whole _)
    cc0_scratch4 cc0_scratch5 cc0_scratch6 cc0_scratch7

set_option maxRecDepth 65536 in
/-- The printed body is the opening and the four loops. -/
theorem body_eq_steps : printed (F := F) = steps := rfl

end Cert.KProof

end
-- ==== Proof.Cells.lean ====
/-
# The devices, the two axes and the semaphore cells

The mesh is 2 × 2: a device has one neighbour along each axis, and is its neighbour's neighbour. The traffic along the
two axes follows one pattern, so everything here is said for an axis `b : Bool` — `false` the first, `true` the second —:
the buffer its chunks leave from, the one they land in, its two arrays of eight DMA semaphores (one for sends, one for
arrivals). A device's cells are its barrier semaphore and, for each axis, each side and each chunk, one DMA semaphore.
-/
module

public import proofs.«01_k».proof.Proof.Steps
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL.Sem

/-! ## The neighbours -/

theorem xn_val (c : Dev nD) : (xn c).val = (c.val % 2 + 2) - 2 * (c.val / 2) := k0_dev1_eq c
theorem yn_val (c : Dev nD) : (yn c).val = (2 * (c.val / 2) + 1) - c.val % 2 := k0_dev2_eq c

/-- The neighbour along axis `b`. -/
def nb : Bool → Dev nD → Dev nD
  | false => xn
  | true => yn

/-- A device is its neighbour's neighbour. -/
theorem nb_nb (b : Bool) (c : Dev nD) : nb b (nb b c) = c := by
  apply Fin.ext
  cases b
  · show (xn (xn c)).val = c.val
    rw [xn_val, xn_val]; revert c; decide
  · show (yn (yn c)).val = c.val
    rw [yn_val, yn_val]; revert c; decide

/-- The exchange with the neighbour along axis `b`, a permutation of the devices. -/
def across (b : Bool) : Dev nD ≃ Dev nD := ⟨nb b, nb b, nb_nb b, nb_nb b⟩

theorem eq_nb_iff {b : Bool} {c d : Dev nD} : d = nb b c ↔ nb b d = c :=
  ⟨fun h => by rw [h, nb_nb], fun h => by rw [← h, nb_nb]⟩

/-! ## One axis's buffers and semaphores -/

/-- Where the chunks sent along axis `b` leave from, and where they land. -/
abbrev srcM : Bool → Memref sig .tc .vmem S8x64x1024 .bf16
  | false => xsM
  | true => ysM
abbrev dstM : Bool → Memref sig .tc .vmem S8x64x1024 .bf16
  | false => xrM
  | true => yrM

/-- Axis `b`'s semaphores: the sends' (`r = false`) and the arrivals' (`r = true`). -/
abbrev semA : Bool → Bool → DmaSems sig S8
  | false, false => cc0_scratch4
  | false, true => cc0_scratch5
  | true, false => cc0_scratch6
  | true, true => cc0_scratch7

/-- Chunk `k`'s cell of axis `b`, side `r`, on device `c`; device `c`'s barrier cell. -/
abbrev dmaCell (b r : Bool) (c : Dev nD) (k : Fin 8) : GSem nD τ sig := ((c : Thread nD τ), .dma (semAt (semA b r) k))
abbrev barCell (c : Dev nD) : GSem nD τ sig := ((c : Thread nD τ), .reg barS)

/-! ## The cells, indexed -/

/-- Axis, side, chunk. -/
abbrev Slot : Type := Bool × Bool × Fin 8

/-- The kernel's own (scoped) semaphores; and those with the barrier semaphore (`none`). -/
abbrev osem (i : Slot) : SemLoc sig := .dma (semAt (semA i.1 i.2.1) i.2.2)
abbrev csem : Option Slot → SemLoc sig
  | none => .reg barS
  | some i => osem i
abbrev kcell (ck : Dev nD × Option Slot) : GSem nD τ sig := ((ck.1 : Thread nD τ), csem ck.2)

/-- Which axis, side and chunk a DMA semaphore serves, read off its number. -/
def slotOf (q : DmaSem sig) : Slot :=
  (decide (19 ≤ q.val), decide ((q.val - 3) / 8 % 2 = 1), ⟨(q.val - 3) % 8, Nat.mod_lt _ (by decide)⟩)

theorem slotOf_semAt (b r : Bool) (k : Fin 8) : slotOf (semAt (semA b r) k) = (b, r, k) := by
  revert b r k; decide

/-- No semaphore of the pipeline's staging is one of the kernel's own. -/
theorem semAt_ge (b r : Bool) (k : Fin 8) : 3 ≤ (semAt (semA b r) k).val := by
  revert b r k; decide

theorem osem_injective : Function.Injective osem := fun i j h => by
  have := congrArg slotOf (SemLoc.dma.inj h)
  rwa [slotOf_semAt, slotOf_semAt] at this

theorem csem_injective : Function.Injective csem := by
  rintro (_ | i) (_ | j) h
  · rfl
  · cases h
  · cases h
  · exact congrArg some (osem_injective h)

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

theorem dmaCell_ne_bar (b r : Bool) (c d : Dev nD) (k : Fin 8) : dmaCell b r c k ≠ barCell d :=
  fun h => by cases congrArg Prod.snd h

theorem dmaCell_inj {b r b' r' : Bool} {c c' : Dev nD} {k k' : Fin 8} (h : dmaCell b r c k = dmaCell b' r' c' k') :
    b = b' ∧ r = r' ∧ c = c' ∧ k = k' := by
  have e := kcell_injective (a₁ := (c, some (b, r, k))) (a₂ := (c', some (b', r', k'))) h
  simp only [Prod.mk.injEq, Option.some.injEq] at e
  exact ⟨e.2.1, e.2.2.1, e.1, e.2.2.2⟩

/-- The kernel's own semaphores are scoped, distinct and none of the staging's. -/
theorem ownSemFacts : Pipeline.OwnSemFacts cfg0.spec osem where
  isScoped := by decide
  inj := osem_injective
  disj := by decide

end Cert.KProof

end
-- ==== Proof.Chunks.lean ====
/-
# A buffer of eight chunks

A buffer of shape 8 × 64 × 1024 is owned chunk by chunk while copies are in flight: `chunkPts M c k f` is chunk `k` of
device `c`'s buffer `M`, held at contents `f`. The buffer is its eight chunks; a store of a chunk is what the next read
of that chunk returns; and a copy of a chunk makes the destination's chunk read what the source's reads.
-/
module

public import proofs.«01_k».proof.Proof.Cells
public import Idealize.ShloMosaic.Lib.ViewIndex

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's, and the protocol's rounds, whose duties are named by an axis. -/
abbrev UB : Type := URounds (GSem nD τ sig) Bool
abbrev UU : Type := UR sig nD τ × UB

local notation "𝕄" => MT nD τ sig Unit (Elt F) ℕ UU ℕ

variable (M : Memref sig .tc .vmem S8x64x1024 .bf16) (c : Dev nD) (k : Fin 8)

/-! ## The chunks' elements -/

theorem slot_set : (slot M k).view.set = (M.view.slice (slotR k)).set := View.set_reshape ..

theorem mem_slotR (i : S8x64x1024.Idx) : i ∈ (slotR k).set ↔ (i 0).val = k.val := by
  refine (slotR k).mem_set.trans ⟨?_, ?_⟩
  · intro h
    obtain ⟨j, hj, e⟩ := h 0
    have hj' : j < 1 := hj
    have e' : (i 0).val = k.val + 1 * j := e
    omega
  · intro h a
    fin_cases a
    · exact ⟨0, Nat.one_pos, h⟩
    · exact ⟨(i 1).val, (i 1).isLt, (by show (i 1).val = 0 + 1 * (i 1).val; omega)⟩
    · exact ⟨(i 2).val, (i 2).isLt, (by show (i 2).val = 0 + 1 * (i 2).val; omega)⟩

theorem slot_disjoint {k k' : Fin 8} (h : k ≠ k') : Disjoint (slot M k).view.set (slot M k').view.set := by
  rw [slot_set, slot_set]
  refine View.disjoint_slice (Finset.disjoint_left.mpr fun i hi hi' => h (Fin.ext ?_))
  rw [← (mem_slotR k i).mp hi, (mem_slotR k' i).mp hi']

theorem slot_cover : Finset.univ.biUnion (fun k => (slot M k).view.set) = M.view.set := by
  ext i
  simp only [Finset.mem_biUnion, Finset.mem_univ, true_and]
  constructor
  · rintro ⟨k, hk⟩
    rw [slot_set] at hk
    exact M.view.set_slice_subset _ hk
  · intro hi
    obtain ⟨x, -, rfl⟩ := Finset.mem_map.mp hi
    obtain ⟨k, hk⟩ : ∃ k : Fin 8, (x 0).val = k.val := ⟨⟨(x 0).val, (x 0).isLt⟩, rfl⟩
    refine ⟨k, ?_⟩
    rw [slot_set, View.set_slice]
    exact Finset.mem_map_of_mem _ ((mem_slotR k x).mpr hk)

/-! ## Holding a chunk -/

/-- Chunk `k` of device `c`'s buffer `M`, held at contents `f` of the whole buffer. -/
def chunkPts (f : Buf (Elt F) (M.view.loc (c : Thread nD τ))) : sProp 𝕄 :=
  M.view.loc (c : Thread nD τ) ↦[(slot M k).view.set]{fullShare} f

/-- The whole of device `c`'s buffer `M`. -/
def bufPts (f : Buf (Elt F) (M.view.loc (c : Thread nD τ))) : sProp 𝕄 :=
  M.view.loc (c : Thread nD τ) ↦[M.view.set]{fullShare} f

instance chunkPts_storable (f : Buf (Elt F) (M.view.loc (c : Thread nD τ))) :
    BI.Storable (upEmb : UEmb _ 𝕄) (chunkPts M c k f) := by unfold chunkPts; infer_instance

/-- The same, named as a copy names it. -/
theorem chunkPts_eq (f : Buf (Elt F) (M.view.loc (c : Thread nD τ))) :
    chunkPts M c k f = ((slot M k).view.loc (c : Thread nD τ) ↦[(slot M k).view.set]{fullShare} f : sProp 𝕄) := rfl

theorem chunkPts_any (f : Buf (Elt F) (M.view.loc (c : Thread nD τ))) :
    chunkPts M c k f ⊢ (iprop(∃ f, chunkPts M c k f) : sProp 𝕄) := by
  iintro H
  iexists f
  iexact H

/-- A buffer held is its eight chunks held. -/
theorem bufPts_split (f : Buf (Elt F) (M.view.loc (c : Thread nD τ))) :
    bufPts M c f ⊢ bigSep Finset.univ fun k => (iprop(∃ f, chunkPts M c k f) : sProp 𝕄) := by
  unfold bufPts
  rw [← slot_cover M]
  refine (Entails.of_eq (pointsTo_biUnion (ℓ := M.view.loc (c : Thread nD τ)) (q := fullShare) (f := f) (Finset.univ : Finset (Fin 8)) (fun k => (slot M k).view.set) fun _ _ _ _ h => slot_disjoint M h)).trans
    (bigSep_mono fun k _ => chunkPts_any M c k f)

/-- Its eight chunks held, each at its own contents, are the buffer held. -/
theorem bufPts_join (f₀ : Buf (Elt F) (M.view.loc (c : Thread nD τ))) :
    (bigSep Finset.univ fun k => (iprop(∃ f, chunkPts M c k f) : sProp 𝕄)) ⊢ iprop(∃ f, bufPts M c f) := by
  iintro H
  ihave H' := (BI.bigSep_exists_pi Finset.univ (fun (k : Fin 8) (f : Buf (Elt F) (M.view.loc (c : Thread nD τ))) => (chunkPts M c k f : sProp 𝕄))) $$ H
  icases H' with ⟨%fs, H⟩
  unfold chunkPts
  ihave H' := (pointsTo_biUnion_join (ℓ := M.view.loc (c : Thread nD τ)) (q := fullShare) (Finset.univ : Finset (Fin 8))
    (fun k => (slot M k).view.set) fs f₀ fun _ _ _ _ h => slot_disjoint M h) $$ H
  icases H' with ⟨%g, -, H⟩
  iexists g
  unfold bufPts
  rw [← slot_cover M]
  iexact H

/-! ## Reading and writing a chunk -/

/-- What a read of chunk `k` returns at contents `f`. -/
abbrev chunkAt (f : M.view.ref.ty.Contents (Elt F)) : Vec F S1x64x1024 .bf16 := M.view.readAt (Elt F) (slotR k).toLoadRect f

/-- A chunk stored is what is read. -/
theorem chunkAt_store (f : M.view.ref.ty.Contents (Elt F)) (v : Vec F S1x64x1024 .bf16) :
    chunkAt M k ((M.access (slotR k)).write (Elt F) f v Finset.univ) = v := by
  unfold chunkAt
  rw [View.readAt_rect]
  exact View.read_write_univ (v := M.view.slice (slotR k)) f v

/-- A chunk copied reads, where it lands, what the source's chunk reads. -/
theorem chunkAt_copy (S D : Memref sig .tc .vmem S8x64x1024 .bf16) (fd : D.view.ref.ty.Contents (Elt F)) (fs : S.view.ref.ty.Contents (Elt F)) :
    chunkAt D k ((slot D k).view.write (Elt F) fd ((slot S k).view.read (Elt F) fs) Finset.univ) = chunkAt S k fs := by
  unfold chunkAt
  rw [View.readAt_rect, View.readAt_rect]
  funext x
  have hn : S64x1024.numel = (slotR k).shape.numel := Shape.Squeezes.numel_eq (s := S1x64x1024) (s' := S64x1024) squeezes_S1x64x1024_S64x1024
  obtain ⟨y, rfl⟩ := (Shape.reshapeEquiv hn).surjective x
  exact View.read_write_reshape (D.view.slice (slotR k)) hn fd _ y

end Cert.KProof

end
-- ==== Proof.Values.lean ====
/-
# What each device computes

Over any float values, from the memory `m` at launch: the product of a device's rows of `dy` with its `w`; the chunks it
sends along each axis; the chunks of its own half of the result (its product's chunk plus the one its first neighbour
sent) and of the other half (what its second neighbour sent); and the whole result `outAt`, index by index.
-/
module

public import proofs.«01_k».proof.Proof.Chunks

@[expose] public section

noncomputable section

namespace Cert.KProof

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ)

/-- Device `c`'s blocks of `dy` and of `w`, as staged. -/
def dyAt (c : Dev nD) : (cc0_stg0_0 : Ref sig .tc).ty.Contents (Elt F) :=
  (win0_0.blk (0 : Fin 1)).view.read (Elt F) (m ((c : Thread nD τ).loc main_arg0))
def wAt (c : Dev nD) : (cc0_stg1_0 : Ref sig .tc).ty.Contents (Elt F) :=
  (win0_1.blk (0 : Fin 1)).view.read (Elt F) (m ((c : Thread nD τ).loc main_arg1))

/-- The product device `c` computes: its half of the rows of `dy`, times `w` transposed. -/
def prodAt (c : Dev nD) : FVec F S512x1024 .f32 :=
  k0_pay1 (dyM.view.readAt (Elt F) (dyR c).toLoadRect (dyAt m c)) (wM.view.readAt (Elt F) wR.toLoadRect (wAt m c))

/-- Chunk `k` of device `c`'s own half of the result: its product's, plus the one that arrives along the first axis. -/
def ownAt (c : Dev nD) (k : Fin 8) : FVec F S64x1024 .f32 :=
  addf (part k (prodAt m c)) (unpack (pack (part k (prodAt m (nb false c)))))

/-- Chunk `k` that device `c` sends along axis `b`: of its product along the first, of its own half along the second. -/
def sentAt : Bool → Dev nD → Fin 8 → FVec F S1x64x1024 .bf16
  | false, c, k => pack (part k (prodAt m c))
  | true, c, k => pack (ownAt m c k)

/-- Chunk `k` of the other half of the result: what arrives along the second axis. -/
def farAt (c : Dev nD) (k : Fin 8) : FVec F S64x1024 .f32 := unpack (sentAt m true (nb true c) k)

/-! ## The result's rows -/

/-- The index `(r, j)` of a chunk. -/
abbrev chunkIdx (r : Fin 64) (j : Fin 1024) : S64x1024.Idx
  | ⟨0, _⟩ => r
  | ⟨1, _⟩ => j

/-- Device `c`'s result: row `i` is row `i % 64` of chunk `i / 64 % 8` of the half `i / 512`, its own at its place along the second axis. -/
def outAt (c : Dev nD) : (cc0_stg2_0 : Ref sig .tc).ty.Contents (Elt F) := fun i =>
  let r : Fin 64 := ⟨(i 0).val % 64, Nat.mod_lt _ (by decide)⟩
  let k : Fin 8 := ⟨(i 0).val / 64 % 8, Nat.mod_lt _ (by decide)⟩
  if (i 0).val / 512 = c.val % 2 then ownAt m c k (chunkIdx r (i 1)) else farAt m c k (chunkIdx r (i 1))

/-- Where chunk `k` of the own half (`h = false`) or of the other half (`h = true`) starts, as the kernel computes it. -/
abbrev outOff (c : Dev nD) : Bool → Fin 8 → Fin 2 → Nat
  | false, k => k0_off2 c (BitVec.ofNat 32 (64 * k.val))
  | true, k => k0_off3 c (BitVec.ofNat 32 (64 * k.val))

theorem outOff_inb (c : Dev nD) : ∀ h k a, outOff c h k a + S64x1024.size a ≤ S1024x1024.size a
  | false, k => k0_off2_inb c k
  | true, k => k0_off3_inb c k

/-- Which chunk of the whole result that is. -/
def outPos (c : Dev nD) (h : Bool) (k : Fin 8) : Nat := 8 * (if h then 1 - c.val % 2 else c.val % 2) + k.val

theorem outOff_eq (c : Dev nD) (h : Bool) (k : Fin 8) : outOff c h k = ![64 * outPos c h k, 0] := by
  have hc : c.val % 2 < 2 := Nat.mod_lt _ (by decide)
  cases h <;> unfold outPos <;> simp only [Bool.false_eq_true, if_true, if_false]
  · show k0_off2 c _ = _
    rw [k0_off2_eq]; congr 1; omega
  · show k0_off3 c _ = _
    rw [k0_off3_eq]; congr 1; omega

/-- Its rows, -/
abbrev outR (c : Dev nD) (h : Bool) (k : Fin 8) : Rect S1024x1024 :=
  Rect.unit (s := S1024x1024) (outOff c h k) S64x1024.size (outOff_inb c h k)
/-- and what they hold in the end. -/
abbrev outRows (c : Dev nD) : Bool → Fin 8 → FVec F S64x1024 .f32
  | false, k => ownAt m c k
  | true, k => farAt m c k

theorem mem_outR (c : Dev nD) (h : Bool) (k : Fin 8) (i : S1024x1024.Idx) :
    i ∈ (outR c h k).set ↔ (i 0).val / 64 = outPos c h k := by
  have h0 : outOff c h k 0 = 64 * outPos c h k := congrFun (outOff_eq c h k) 0
  have h1 : outOff c h k 1 = 0 := congrFun (outOff_eq c h k) 1
  refine (outR c h k).mem_set.trans ⟨?_, ?_⟩
  · intro hm
    obtain ⟨j, hj, e⟩ := hm 0
    have hj' : j < 64 := hj
    have e' : (i 0).val = outOff c h k 0 + 1 * j := e
    omega
  · intro hm a
    fin_cases a
    · exact ⟨(i 0).val % 64, Nat.mod_lt _ (by decide), (by show (i 0).val = outOff c h k 0 + 1 * ((i 0).val % 64); omega)⟩
    · exact ⟨(i 1).val, (i 1).isLt, (by show (i 1).val = outOff c h k 1 + 1 * (i 1).val; omega)⟩

/-- Different chunks have different rows. -/
theorem outR_disjoint (c : Dev nD) {h h' : Bool} {k k' : Fin 8} (hne : (h, k) ≠ (h', k')) : Disjoint (outR c h k).set (outR c h' k').set := by
  refine Finset.disjoint_left.mpr fun i hi hi' => hne ?_
  rw [mem_outR] at hi hi'
  unfold outPos at hi hi'
  have hk := k.isLt; have hk' := k'.isLt
  have hc : c.val % 2 < 2 := Nat.mod_lt _ (by decide)
  have e : k.val = k'.val := by omega
  have e' : h = h' := by
    cases h <;> cases h' <;> first | rfl | (exfalso; simp only [Bool.false_eq_true, if_true, if_false] at hi hi'; omega)
  rw [e', Fin.ext e]

/-- The result's buffer at contents `f` holds chunk `k` of half `h`. -/
def Holds (c : Dev nD) (f : (cc0_stg2_0 : Ref sig .tc).ty.Contents (Elt F)) (h : Bool) (k : Fin 8) : Prop :=
  (oM.access (outR c h k)).read (Elt F) f = outRows m c h k

/-- A chunk stored is held, -/
theorem holds_store (c : Dev nD) (f : (cc0_stg2_0 : Ref sig .tc).ty.Contents (Elt F)) (h : Bool) (k : Fin 8) :
    Holds m c ((oM.access (outR c h k)).write (Elt F) f (outRows m c h k) Finset.univ) h k :=
  View.read_write_univ (v := oM.view.slice (outR c h k)) f _

/-- and what else was held still is. -/
theorem holds_keep (c : Dev nD) {f : (cc0_stg2_0 : Ref sig .tc).ty.Contents (Elt F)} {h h' : Bool} {k k' : Fin 8}
    (hne : (h', k') ≠ (h, k)) (H : Holds m c f h' k') (w : FVec F S64x1024 .f32) :
    Holds m c ((oM.access (outR c h k)).write (Elt F) f w Finset.univ) h' k' := by
  refine Eq.trans ?_ H
  exact View.read_slice_write_slice_of_disjoint (v := oM.view) (outR c h' k') (outR c h k) f w Finset.univ
    (View.disjoint_slice (outR_disjoint c hne))

/-- A buffer that holds every chunk of both halves is the result. -/
theorem eq_outAt (c : Dev nD) (f : (cc0_stg2_0 : Ref sig .tc).ty.Contents (Elt F)) (H : ∀ h k, Holds m c f h k) : f = outAt m c := by
  funext i
  have hi : (i 0).val < 1024 := (i 0).isLt
  have hc : c.val % 2 < 2 := Nat.mod_lt _ (by decide)
  -- row `i`, found in the chunk `(h, k)` it lies in
  have key (h : Bool) (k : Fin 8) (hk : (i 0).val / 64 = outPos c h k) :
      f i = outRows m c h k (chunkIdx ⟨(i 0).val % 64, Nat.mod_lt _ (by decide)⟩ (i 1)) := by
    have h0 : outOff c h k 0 = 64 * outPos c h k := congrFun (outOff_eq c h k) 0
    have h1 : outOff c h k 1 = 0 := congrFun (outOff_eq c h k) 1
    rw [← H h k]
    refine congrArg f (Rect.emb_eq_of_coords (outR c h k) _ i fun a => ?_).symm
    fin_cases a
    · show (i 0).val = outOff c h k 0 + 1 * ((i 0).val % 64); omega
    · show (i 1).val = outOff c h k 1 + 1 * (i 1).val; omega
  unfold outAt
  by_cases hh : (i 0).val / 512 = c.val % 2
  · rw [if_pos hh]
    exact key false ⟨(i 0).val / 64 % 8, Nat.mod_lt _ (by decide)⟩ (by unfold outPos; simp only [Bool.false_eq_true, if_false]; omega)
  · rw [if_neg hh]
    exact key true ⟨(i 0).val / 64 % 8, Nat.mod_lt _ (by decide)⟩ (by unfold outPos; simp only [if_true]; omega)

end Cert.KProof

end
-- ==== Proof.Protocol.lean ====
/-
# The protocol: what each cell carries, who pays it, what is owed

Every cell is used once. A barrier cell has two duties, one per axis: the neighbour along axis `b` signals once and hands
over its landing buffer for that axis. A send cell's duty gives the sent chunk's buffer back; an arrival cell's duty gives
the landing chunk, which then reads what the neighbour sent. Waits are ordered by level: the barrier first, then the
first axis's arrivals, then the second's; at each wait a device owes only cells above it.
-/
module

public import proofs.«01_k».proof.Proof.Values

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the duties hand over -/

/-- The credit of one chunk's copy. -/
abbrev N : ℕ := (slot xsM 0).view.dmaCredit
theorem N_pos : 0 < N := View.dmaCredit_pos _ (by decide)

/-- The signal of `c`'s neighbour along axis `b`: that neighbour's landing buffer for the axis. -/
def barPay (b : Bool) (c : Dev nD) : sProp 𝕄 := bigSep Finset.univ fun k => iprop(∃ f, chunkPts (dstM b) (nb b c) k f)

/-- Chunk `k` sent: the buffer it left from. -/
def sendPay (b : Bool) (c : Dev nD) (k : Fin 8) : sProp 𝕄 := iprop(∃ f, chunkPts (srcM b) c k f)

/-- Chunk `k` arrived: the buffer it landed in, which reads what the neighbour sent. -/
def recvPay (b : Bool) (c : Dev nD) (k : Fin 8) : sProp 𝕄 :=
  iprop(∃ f, ⌜chunkAt (dstM b) k f = sentAt m b (nb b c) k⌝ ∗ chunkPts (dstM b) c k f)

def slotPay (c : Dev nD) : Slot → sProp 𝕄
  | (b, false, k) => sendPay b c k
  | (b, true, k) => recvPay m b c k

instance barPay_storable (b : Bool) (c : Dev nD) : BI.Storable (upEmb : UEmb _ 𝕄) (barPay (F := F) b c) := by
  unfold barPay; infer_instance
instance slotPay_storable (c : Dev nD) (i : Slot) : BI.Storable (upEmb : UEmb _ 𝕄) (slotPay (F := F) m c i) := by
  rcases i with ⟨b, _ | _, k⟩ <;> unfold slotPay <;> dsimp only
  · unfold sendPay; infer_instance
  · unfold recvPay; infer_instance

/-! ## The schedule -/

/-- The duties of a semaphore: both axes' on the barrier, one on each of the kernel's own DMA semaphores. -/
def semDuties : SemLoc sig → Finset Bool
  | .reg s => if s = barS then Finset.univ else ∅
  | .dma q => if 3 ≤ q.val then {false} else ∅

def sched : Rounds.Schedule (GSem nD τ sig) Bool 𝕄 where
  duties g r := if r = 0 ∧ g.1.2 = .tc then semDuties g.2 else ∅
  unitless _ := False
  amount g _ _ := match g.2 with
    | .reg _ => 1
    | .dma _ => N
  payload g _ d := match g.2 with
    | .reg _ => barPay d g.1.1
    | .dma q => slotPay m g.1.1 (slotOf q)
  amount_pos g _ _ _ := by
    rcases g with ⟨t, s | q⟩
    · exact Nat.one_pos
    · exact N_pos

instance sched_payload_storable (g : GSem nD τ sig) (r : ℕ) (d : Bool) : BI.Storable (upEmb : UEmb _ 𝕄) ((sched (F := F) m).payload g r d) := by
  rcases g with ⟨t, s | q⟩
  · exact barPay_storable d t.1
  · exact slotPay_storable m t.1 (slotOf q)

section Tables
variable (b r : Bool) (c : Dev nD) (k : Fin 8)

theorem duties_bar : (sched (F := F) m).duties (barCell c) 0 = Finset.univ := by
  dsimp only [sched]; rw [if_pos ⟨rfl, rfl⟩]; unfold semDuties; exact if_pos rfl
theorem duties_dma : (sched (F := F) m).duties (dmaCell b r c k) 0 = {false} := by
  dsimp only [sched]; rw [if_pos ⟨rfl, rfl⟩]; exact if_pos (semAt_ge b r k)
theorem duties_later (g : GSem nD τ sig) : ∀ R, 1 ≤ R → (sched (F := F) m).duties g R = ∅ :=
  fun R hR => if_neg fun h => by omega
theorem mem_duties_bar (d : Bool) : d ∈ (sched (F := F) m).duties (barCell c) 0 := by rw [duties_bar]; exact Finset.mem_univ _
theorem mem_duties_dma : false ∈ (sched (F := F) m).duties (dmaCell b r c k) 0 := by rw [duties_dma]; exact Finset.mem_singleton_self _

theorem amount_bar (d : Bool) : (sched (F := F) m).amount (barCell c) 0 d = 1 := rfl
theorem amount_dma (d : Bool) : (sched (F := F) m).amount (dmaCell b r c k) 0 d = N := rfl

theorem expect_bar : (sched (F := F) m).expect (barCell c) 0 = 2 := by
  unfold Schedule.expect Schedule.amountOf
  rw [duties_bar, Finset.sum_congr rfl fun d _ => amount_bar m c d]; rfl
theorem expect_dma : (sched (F := F) m).expect (dmaCell b r c k) 0 = N := by
  unfold Schedule.expect Schedule.amountOf; rw [duties_dma, Finset.sum_singleton, amount_dma]

theorem payload_bar (d : Bool) : (sched (F := F) m).payload (barCell c) 0 d = barPay d c := rfl
theorem payload_dma (d : Bool) : (sched (F := F) m).payload (dmaCell b r c k) 0 d = slotPay m c (b, r, k) := by
  show slotPay m c (slotOf (semAt (semA b r) k)) = _
  rw [slotOf_semAt]

/-- What a device gets at its barrier: both neighbours' landing buffers. -/
theorem rest_bar : bigSep ((sched (F := F) m).duties (barCell c) 0 \ ∅) (fun d => (sched (F := F) m).payload (barCell c) 0 d)
    = iprop(barPay false c ∗ barPay true c) := by
  rw [Finset.sdiff_empty, duties_bar, bigSep_univ_eq_bigSepL [false, true] (by decide) (by decide), bigSepL_cons_cons, bigSepL_singleton,
    payload_bar, payload_bar]
  rfl
/-- What it gets at a DMA cell. -/
theorem rest_dma : bigSep ((sched (F := F) m).duties (dmaCell b r c k) 0 \ ∅) (fun d => (sched (F := F) m).payload (dmaCell b r c k) 0 d)
    = slotPay m c (b, r, k) := by
  rw [Finset.sdiff_empty, duties_dma, bigSep_singleton, payload_dma]

end Tables

/-! ## What is owed -/

/-- The arrivals along axis `b` that device `c` owes its neighbour, for the chunks in `S`. -/
def debt (b : Bool) (c : Dev nD) (S : Finset (Fin 8)) : CellTallies nD τ sig Unit := ∑ k ∈ S, tallyAt (dmaCell b true (nb b c) k) () N

theorem debt_empty (b : Bool) (c : Dev nD) : debt b c ∅ = 0 := Finset.sum_empty
theorem debt_insert (b : Bool) (c : Dev nD) {k : Fin 8} {S : Finset (Fin 8)} (h : k ∉ S) :
    debt b c (insert k S) = debt b c S + tallyAt (dmaCell b true (nb b c) k) () N := by
  unfold debt; rw [Finset.sum_insert h, add_comm]

theorem debt_apply (b : Bool) (c : Dev nD) (S : Finset (Fin 8)) (g : GSem nD τ sig) :
    debt b c S g () = ∑ k ∈ S, if g = dmaCell b true (nb b c) k then N else 0 := by
  unfold debt
  rw [Finset.sum_apply, Finsupp.finset_sum_apply]
  exact Finset.sum_congr rfl fun k _ => by rw [tallyAt_apply]; exact if_congr (and_iff_left rfl) rfl rfl

theorem debt_pos {b : Bool} {c : Dev nD} {S : Finset (Fin 8)} {g : GSem nD τ sig} {u : Unit} (h : 0 < debt b c S g u) :
    ∃ k, g = dmaCell b true (nb b c) k := by
  by_contra hn
  rw [debt_apply, Finset.sum_eq_zero fun k _ => if_neg fun e => hn ⟨k, e⟩] at h
  exact Nat.lt_irrefl 0 h

/-- After the signals: all arrivals along both axes. At launch: these and one unit at each neighbour's barrier. -/
def O₂ (c : Dev nD) : CellTallies nD τ sig Unit := debt true c Finset.univ + debt false c Finset.univ
def O₁ (c : Dev nD) : CellTallies nD τ sig Unit := O₂ c + tallyAt (barCell (nb true c)) () 1
def O₀ (c : Dev nD) : CellTallies nD τ sig Unit := O₁ c + tallyAt (barCell (nb false c)) () 1

/-! ## The levels -/

def L (g : GSem nD τ sig) : Finset Unit := if g.1.2 = .tc then {()} else ∅

/-- The barrier at 1, the first axis's arrivals at 2, the second's at 3, everything else at 0. -/
def lv (g : GSem nD τ sig) (_ : Unit) : ℕ := match g.2 with
  | .reg _ => 1
  | .dma q => if 3 ≤ q.val ∧ (slotOf q).2.1 = true then (if (slotOf q).1 then 3 else 2) else 0

theorem L_of_ne (g : GSem nD τ sig) (h : g.1.2 ≠ .tc) : L g = ∅ := if_neg h

theorem lv_bar (c : Dev nD) : lv (barCell c) () = 1 := rfl
theorem lv_recv (b : Bool) (c : Dev nD) (k : Fin 8) : lv (dmaCell b true c k) () = if b then 3 else 2 := by
  show (if 3 ≤ (semAt (semA b true) k).val ∧ (slotOf (semAt (semA b true) k)).2.1 = true then _ else _) = _
  rw [slotOf_semAt, if_pos ⟨semAt_ge b true k, rfl⟩]
theorem lv_staging (t : Thread nD τ) (q : DmaSem sig) (h : q.val < 3) : lv (t, .dma q) () = 0 := if_neg fun h' => by omega

/-- A device may wait on a semaphore of its own while what it owes lies above it. -/
theorem mayWait_of (c : Dev nD) (s : SemLoc sig) (O : CellTallies nD τ sig Unit)
    (h : ∀ g u, 0 < O g u → g.1.2 = .tc ∧ lv ((c : Thread nD τ), s) () < lv g u) :
    (levAts L lv : sProp 𝕄) ⊢ MayWait (c : Thread nD τ) s () O :=
  MayOwe.of_cut (L := L) (lev := lv) (lv ((c : Thread nD τ), s) ())
    (fun p hp => by rw [Finset.mem_singleton.mp hp, L, if_pos rfl]; exact Finset.mem_singleton_self _)
    (fun g u hg => by rw [L, if_pos (h g u hg).1]; exact Finset.mem_singleton_self _)
    (fun p hp => by rw [Finset.mem_singleton.mp hp])
    (fun g u hg => (h g u hg).2)

/-- What is owed at launch: arrivals along both axes, above 1, and the barriers, at 1. -/
theorem O₂_pos {c : Dev nD} {g : GSem nD τ sig} {u : Unit} (h : 0 < O₂ c g u) : g.1.2 = .tc ∧ 1 < lv g u := by
  unfold O₂ at h
  rw [Pi.add_apply, Finsupp.add_apply] at h
  rcases Nat.add_pos_iff_pos_or_pos.mp h with h | h <;> obtain ⟨k, rfl⟩ := debt_pos h <;> exact ⟨rfl, by rw [lv_recv]; decide⟩

theorem O₀_pos {c : Dev nD} {g : GSem nD τ sig} {u : Unit} (h : 0 < O₀ c g u) : g.1.2 = .tc ∧ 0 < lv g u := by
  unfold O₀ O₁ at h
  rw [Pi.add_apply, Finsupp.add_apply, Pi.add_apply, Finsupp.add_apply, tallyAt_apply, tallyAt_apply] at h
  rcases Nat.add_pos_iff_pos_or_pos.mp h with h | h
  · rcases Nat.add_pos_iff_pos_or_pos.mp h with h | h
    · exact ⟨(O₂_pos h).1, Nat.lt_trans Nat.one_pos (O₂_pos h).2⟩
    · split at h
      · rename_i e; rw [e.1]; exact ⟨rfl, Nat.one_pos⟩
      · exact absurd h (Nat.lt_irrefl 0)
  · split at h
    · rename_i e; rw [e.1]; exact ⟨rfl, Nat.one_pos⟩
    · exact absurd h (Nat.lt_irrefl 0)

/-- The staging semaphores: at launch, and when nothing is owed. -/
theorem mayWait_staging (c : Dev nD) (q : DmaSem sig) (hq : q.val < 3) (O : CellTallies nD τ sig Unit) (hO : O = O₀ c ∨ O = 0) :
    (levAts L lv : sProp 𝕄) ⊢ MayWait (c : Thread nD τ) (.dma q) () O := by
  refine mayWait_of c _ O fun g u hg => ?_
  rw [lv_staging _ q hq]
  rcases hO with rfl | rfl
  · exact O₀_pos hg
  · exact absurd hg (Nat.lt_irrefl 0)

/-- The barrier: owing the arrivals along both axes. -/
theorem mayWait_bar (c : Dev nD) : (levAts L lv : sProp 𝕄) ⊢ MayWait (c : Thread nD τ) (.reg barS) () (O₂ c) :=
  mayWait_of c _ _ fun g u hg => O₂_pos hg

/-- An arrival along the first axis: owing arrivals along the second. -/
theorem mayWait_first (c : Dev nD) (k : Fin 8) (S : Finset (Fin 8)) :
    (levAts L lv : sProp 𝕄) ⊢ MayWait (c : Thread nD τ) (.dma (semAt (semA false true) k)) () (debt true c S) :=
  mayWait_of c _ _ fun g u hg => by
    obtain ⟨k', rfl⟩ := debt_pos hg
    exact ⟨rfl, by rw [lv_recv, lv_recv]; decide⟩

end Cert.KProof

end
-- ==== Proof.Rules.lean ====
/-
# One rule for each statement on a chunk

What every device knows throughout (`ctx`): each cell's invariant, that each cell has reached its round, the levels. From
it, one rule for each of the kernel's statements on a chunk — store it, copy it to the neighbour, wait for it, read
it — for either axis and any chunk; and the rule for a loop over chunks.
-/
module

public import proofs.«01_k».proof.Proof.Protocol

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Slot → ℕ)

abbrev 𝒱₀ : Variants := Variants.none

/-- The weakest precondition of a program on device `c`. -/
abbrev wpK (c : Dev nD) {α : Type} (p : KProg F α) (Kt : α → sProp 𝕄) : sProp 𝕄 :=
  wp frame (wpE (defs₀ (F := F)) 𝒱₀ (c : Thread nD τ) none) Set.univ p Kt

theorem wpK_bind (c : Dev nD) {α β : Type} (p : KProg F α) (q : α → KProg F β) (Kt : β → sProp 𝕄) :
    wpK c (p >>= q) Kt = wpK c p fun a => wpK c (q a) Kt := wp_bind ..

/-! ## What every device knows -/

/-- Every cell's invariant, at the name `K` gives it, and that every cell has reached round 0. -/
def records : sProp 𝕄 :=
  iprop((bigSep Finset.univ fun ck : Dev nD × Option Slot => cellInv ER (sched m) (K ck) (kcell ck))
    ∗ bigSep Finset.univ fun ck : Dev nD × Option Slot => reached ER (kcell ck) 0)
def ctx : sProp 𝕄 := iprop(records m K ∗ levAts L lv)

instance records_persistent : BI.Persistent (records m K) := by unfold records; infer_instance
instance ctx_persistent : BI.Persistent (ctx m K) := by unfold ctx; infer_instance

theorem inv_at (ck : Dev nD × Option Slot) :
    (bigSep Finset.univ fun ck : Dev nD × Option Slot => (cellInv ER (sched m) (K ck) (kcell ck) : sProp 𝕄)) ⊢ cellInv ER (sched m) (K ck) (kcell ck) :=
  bigSep_elim (Finset.mem_univ ck)
theorem reached_at (ck : Dev nD × Option Slot) :
    (bigSep Finset.univ fun ck : Dev nD × Option Slot => (reached ER (kcell ck) 0 : sProp 𝕄)) ⊢ reached ER (kcell ck) 0 :=
  bigSep_elim (Finset.mem_univ ck)

theorem ctx_inv (ck : Dev nD × Option Slot) : ctx m K ⊢ cellInv ER (sched m) (K ck) (kcell ck) := by
  unfold ctx records
  iintro ⟨⟨H, -⟩, -⟩
  iapply (inv_at m K ck)
  iexact H
theorem ctx_reached (ck : Dev nD × Option Slot) : ctx m K ⊢ (reached ER (kcell ck) 0 : sProp 𝕄) := by
  unfold ctx records
  iintro ⟨⟨-, H⟩, -⟩
  iapply (reached_at (F := F) ck)
  iexact H
theorem ctx_lev : ctx m K ⊢ (levAts L lv : sProp 𝕄) := by
  unfold ctx
  iintro ⟨-, H⟩
  iexact H

/-! ## A loop -/

theorem bigSep_put {A : Type} [DecidableEq A] {S : Finset A} {k : A} (h : k ∉ S) (Φ : A → sProp 𝕄) :
    bigSep (insert k S) Φ = iprop(Φ k ∗ bigSep S Φ) := bigSep_insert h

/-- A body run for every element of a list: each turn takes its own `P k` to its own `Q k`, and the loop's `R` from the
    elements left to one fewer. -/
theorem wp_each {A : Type} [DecidableEq A] (c : Dev nD) (f : A → KProg F PUnit) (Γ : sProp 𝕄) [BI.Persistent Γ] (P Q : A → sProp 𝕄) (R : Finset A → sProp 𝕄)
    (h : ∀ k S, k ∉ S → ∀ Kt : PUnit → sProp 𝕄, iprop(Γ ∗ P k ∗ R (insert k S) ∗ ((Q k ∗ R S) -∗ Kt ⟨⟩)) ⊢ wpK c (f k) Kt) :
    ∀ l : List A, l.Nodup → ∀ Kt : PUnit → sProp 𝕄,
      iprop(Γ ∗ bigSep l.toFinset P ∗ R l.toFinset ∗ ((bigSep l.toFinset Q ∗ R ∅) -∗ Kt ⟨⟩)) ⊢ wpK c (each f l) Kt
  | [], _, Kt => by
    show _ ⊢ wpK c (.ret ⟨⟩) Kt
    rw [List.toFinset_nil, bigSep_empty, bigSep_empty]
    unfold wpK
    rw [wp_ret]
    iintro ⟨-, -, HR, Hk⟩
    imodintro
    iapply Hk
    isplitr; · iempintro
    iexact HR
  | k :: ks, hl, Kt => by
    have hk : k ∉ ks.toFinset := fun hm => (List.nodup_cons.mp hl).1 (List.mem_toFinset.mp hm)
    show _ ⊢ wpK c (f k >>= fun _ => each f ks) Kt
    rw [List.toFinset_cons, bigSep_put hk, bigSep_put hk, wpK_bind]
    iintro ⟨#HΓ, HP, HR, Hk⟩
    icases HP with ⟨HPk, HP⟩
    iapply (h k ks.toFinset hk)
    isplitr; · iexact HΓ
    isplitl [HPk]; · iexact HPk
    isplitl [HR]; · iexact HR
    iintro ⟨HQk, HR⟩
    iapply (wp_each c f Γ P Q R h ks (List.nodup_cons.mp hl).2 Kt)
    isplitr; · iexact HΓ
    isplitl [HP]; · iexact HP
    isplitl [HR]; · iexact HR
    iintro ⟨HQ, HR⟩
    iapply Hk
    isplitl [HQk HQ]
    · isplitl [HQk]; · iexact HQk
      iexact HQ
    iexact HR

/-! ## The statements on a chunk -/

theorem amount_slot (b : Bool) (k : Fin 8) : (slot (dstM b) k).view.amount (.dma (semAt (semA b true) k)) = N := by
  cases b <;> rfl

/-- A wait to come on a cell of device `c`'s own: its credit, and that the cell is at its one round. -/
def pending (b r : Bool) (c : Dev nD) (k : Fin 8) : sProp 𝕄 :=
  iprop(cred (tallyAt (dmaCell b r c k) () N) ∗ atPos ER (dmaCell b r c k) 0 ∅ 0)

/-- A copy to come: the neighbour's landing chunk, the right to pay the arrival there and the send here, and that the send
    cell is at its one round. -/
def ticket (b : Bool) (c : Dev nD) (k : Fin 8) : sProp 𝕄 :=
  iprop((∃ f, chunkPts (dstM b) (nb b c) k f) ∗ dutyTok ER (dmaCell b true (nb b c) k) 0 false ∗ dutyTok ER (dmaCell b false c k) 0 false
    ∗ atPos ER (dmaCell b false c k) 0 ∅ 0)

/-- A chunk copied from where it reads what `c` sends is, where it lands, the arrival's payload. -/
theorem recv_intro (b : Bool) (c : Dev nD) (k : Fin 8) (fd : Buf (Elt F) ((dstM b).view.loc (nb b c : Thread nD τ)))
    (fs : Buf (Elt F) ((srcM b).view.loc (c : Thread nD τ))) (h : chunkAt (srcM b) k fs = sentAt m b c k) :
    chunkPts (dstM b) (nb b c) k ((slot (dstM b) k).view.write (Elt F) fd ((slot (srcM b) k).view.read (Elt F) fs) Finset.univ)
      ⊢ slotPay m (nb b c) (b, true, k) := by
  unfold slotPay recvPay
  dsimp only
  rw [nb_nb]
  iintro H
  iexists _
  isplitr
  · ipureintro; exact (chunkAt_copy k (srcM b) (dstM b) fd fs).trans h
  iexact H

section Stmts
variable (M : Memref sig .tc .vmem S8x64x1024 .bf16) (hM : M.IsWhole) (c : Dev nD) (k : Fin 8)

/-- A chunk stored is then read. -/
theorem wp_putSlot (v : FVec F S1x64x1024 .bf16) (Kt : PUnit → sProp 𝕄) :
    iprop((∃ f, chunkPts M c k f) ∗ ((∃ f, ⌜chunkAt M k f = v⌝ ∗ chunkPts M c k f) -∗ Kt ⟨⟩)) ⊢ wpK c (putSlot M hM k v) Kt := by
  unfold putSlot
  simp only [Prog.lift, Prog.bind_op, Prog.bind_ret]
  unfold chunkPts
  iintro ⟨⟨%f, H⟩, Hk⟩
  iapply (wp_load_rect 𝒱₀ (c : Thread nD τ) none Set.univ (m := M) (r := slotR k) (by rw [slot_set])) $$ H; iintro H
  iapply (wp_store 𝒱₀ (c : Thread nD τ) none Set.univ (m := M) (r := slotR k) (Mk := Finset.univ) (by rw [slot_set]; exact Finset.Subset.refl _)) $$ H; iintro H
  rw [wp_ret]; imodintro
  iapply Hk
  iexists ((M.access (slotR k)).write (Elt F) f v Finset.univ)
  isplitr; · ipureintro; exact chunkAt_store M k f v
  iexact H

/-- A chunk read. -/
theorem wp_getSlot (f : Buf (Elt F) (M.view.loc (c : Thread nD τ))) (Kt : Vec F S1x64x1024 .bf16 → sProp 𝕄) :
    iprop(chunkPts M c k f ∗ (chunkPts M c k f -∗ Kt (chunkAt M k f))) ⊢ wpK c (getSlot M k) Kt := by
  rw [show chunkAt M k f = (M.access (slotR k)).read (Elt F) f from rfl]
  unfold getSlot
  simp only [Prog.lift]
  unfold chunkPts
  iintro ⟨H, Hk⟩
  iapply (wp_load_rect 𝒱₀ (c : Thread nD τ) none Set.univ (m := M) (r := slotR k) (by rw [slot_set])) $$ H; iintro H
  rw [wp_ret]; imodintro
  iapply Hk
  iexact H

/-- A wait for a chunk on a cell of the device's own: what the cell carries, and the cell closed at zero. -/
theorem wp_waitSlot (b r : Bool) (S D : Memref sig .tc .vmem S8x64x1024 .bf16) (hS : S.IsWhole) (hD : D.IsWhole) (O : CellTallies nD τ sig Unit)
    (hO : (levAts L lv : sProp 𝕄) ⊢ MayWait (c : Thread nD τ) (.dma (semAt (semA b r) k)) () O) (Kt : PUnit → sProp 𝕄) :
    iprop(ctx m K ∗ pending b r c k ∗ (∃ W, owes (c : Thread nD τ) O W)
        ∗ ((slotPay m c (b, r, k) ∗ semVal (dmaCell b r c k) 0 ∗ (∃ W, owes (c : Thread nD τ) O W)) -∗ Kt ⟨⟩))
      ⊢ wpK c (waitSlot (semA b r) S hS D hD k) Kt := by
  unfold waitSlot pending
  simp only [Prog.lift]
  iintro ⟨#Hctx, ⟨Hc, Hat⟩, ⟨%W, HO⟩, Hk⟩
  ihave #HI := (ctx_inv m K (c, some (b, r, k))) $$ Hctx
  iapply (Rounds.wp_wait_rest_token 𝒱₀ ER (sched m) (c : Thread nD τ) none (κ := K (c, some (b, r, k)))
      (wpE_waitDma2_eq 𝒱₀ (c : Thread nD τ) none Set.univ) (Set.mem_univ _) () (O := O) (W := W) (R := 0) (m := 0) (T := ∅)
      (by rw [expect_dma]; exact Nat.zero_add _)) $$ [Hc HO Hat]
  · isplitr; · iexact HI
    isplitl [Hc]; · iexact Hc
    isplitl [HO]; · iexact HO
    isplitr
    · iapply hO
      iapply (ctx_lev m K)
      iexact Hctx
    iexact Hat
  iintro ⟨HO, Hat, -, Hpay⟩
  ihave Hp := (Entails.of_eq (rest_dma m b r c k)) $$ Hpay
  imod (Rounds.cell_close ER (sched m) (Set.mem_univ (K (c, some (b, r, k)))) (fun h => h) (R := 0 + 1) (duties_later m (dmaCell b r c k))) $$ [Hat] with Hz
  · isplitr; · iexact HI
    iexact Hat
  rw [wp_ret]; imodintro
  iapply Hk
  isplitl [Hp]; · iexact Hp
  isplitl [Hz]; · iexact Hz
  iexists _
  iexact HO

/-- A chunk that holds what the device sends along axis `b`, copied to its neighbour there. -/
theorem wp_copySlot (b : Bool) (hS : (srcM b).IsWhole) (hD : (dstM b).IsWhole) {hsc : (slot (dstM b) k).view.ref.isScScratch = false}
    (O : CellTallies nD τ sig Unit) (Kt : PUnit → sProp 𝕄) :
    iprop(ctx m K ∗ (∃ f, ⌜chunkAt (srcM b) k f = sentAt m b c k⌝ ∗ chunkPts (srcM b) c k f) ∗ ticket b c k
        ∗ (∃ W, owes (c : Thread nD τ) (O + tallyAt (dmaCell b true (nb b c) k) () N) W)
        ∗ ((pending b false c k ∗ (∃ W, owes (c : Thread nD τ) O W)) -∗ Kt ⟨⟩))
      ⊢ wpK c (copySlot (srcM b) hS (dstM b) hD (semA b false) (semA b true) (nb b c) k hsc) Kt := by
  unfold copySlot pending ticket
  simp only [Prog.lift]
  iintro ⟨#Hctx, ⟨%fs, %hfs, Hs⟩, ⟨⟨%fd, Hd⟩, Htr, Hts, Hat⟩, ⟨%W, HO⟩, Hk⟩
  ihave #HI₁ := (ctx_inv m K (c, some (b, false, k))) $$ Hctx
  ihave #HI₂ := (ctx_inv m K (nb b c, some (b, true, k))) $$ Hctx
  ihave #HR₁ := (ctx_reached m K (c, some (b, false, k))) $$ Hctx
  ihave #HR₂ := (ctx_reached m K (nb b c, some (b, true, k))) $$ Hctx
  ihave Hs' := (Entails.of_eq (chunkPts_eq (srcM b) c k fs)) $$ Hs
  ihave Hd' := (Entails.of_eq (chunkPts_eq (dstM b) (nb b c) k fd)) $$ Hd
  iapply (Rounds.wp_send_pointsTo 𝒱₀ ER (sched m) (c : Thread nD τ) none (c' := (nb b c : Thread nD τ)) (κ₁ := K (c, some (b, false, k))) (κ₂ := K (nb b c, some (b, true, k)))
      (src := slot (srcM b) k) (dst := slot (dstM b) k)
      (r₁ := 0) (r₂ := 0) (d₁ := false) (d₂ := false) (fs := fs) (fd := fd) (q := fullShare)
      (mem_duties_dma m b false c k) (mem_duties_dma m b true (nb b c) k) () () N (amount_slot b k) rfl rfl O rfl (W := W)
      (by rw [payload_dma]; exact chunkPts_any (srcM b) c k fs)
      (by
        rw [payload_dma]
        exact recv_intro m b c k fd fs hfs)) $$ [Hs' Hd' HO Hts Htr]
  · isplitr; · iexact HI₁
    isplitr; · iexact HI₂
    isplitl [Hs']; · iexact Hs'
    isplitl [Hd']; · iexact Hd'
    isplitl [HO]; · iexact HO
    isplitl [Hts]; · iexact Hts
    isplitr; · iexact HR₁
    isplitl [Htr]; · iexact Htr
    iexact HR₂
  iintro ⟨Hc, HO⟩
  rw [wp_ret]; imodintro
  iapply Hk
  isplitl [Hc Hat]
  · isplitl [Hc]; · iexact Hc
    iexact Hat
  iexists _
  iexact HO

end Stmts

end Cert.KProof

end
-- ==== Proof.Turns.lean ====
/-
# One turn of each of the four loops

Each loop's body at a chunk `k`, and then each loop over all eight chunks: what a turn takes of its own, what it leaves,
and what the loop carries from one turn to the next — what the device still owes, and, in the loops that store into the
result, which of the result's chunks are in place.
-/
module

public import proofs.«01_k».proof.Proof.Rules

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Option Slot → ℕ) (c : Dev nD)

/-! ## What the loops carry -/

/-- What device `c` owes, whatever waits it has booked. -/
def owing (O : CellTallies nD τ sig Unit) : sProp 𝕄 := iprop(∃ W, owes (c : Thread nD τ) O W)

/-- The result's buffer, at contents of which `P` holds. -/
def outPts (P : (cc0_stg2_0 : Ref sig .tc).ty.Contents (Elt F) → Prop) : sProp 𝕄 :=
  iprop(∃ f : Buf (Elt F) ((c : Thread nD τ).loc cc0_stg2_0), ⌜P f⌝ ∗ (((c : Thread nD τ).loc cc0_stg2_0) ↦{fullShare} f))

/-- The chunks of the own half outside `S` are in place; -/
def OwnBut (S : Finset (Fin 8)) (f : (cc0_stg2_0 : Ref sig .tc).ty.Contents (Elt F)) : Prop := ∀ k, k ∉ S → Holds m c f false k
/-- the own half is, and the chunks of the other outside `S`. -/
def FarBut (S : Finset (Fin 8)) (f : (cc0_stg2_0 : Ref sig .tc).ty.Contents (Elt F)) : Prop :=
  (∀ k, Holds m c f false k) ∧ ∀ k, k ∉ S → Holds m c f true k

/-- A buffer's chunk, at any contents; a cell closed at zero. -/
abbrev chunkAny (M : Memref sig .tc .vmem S8x64x1024 .bf16) (k : Fin 8) : sProp 𝕄 := iprop(∃ f, chunkPts M c k f)
abbrev closed (b r : Bool) (k : Fin 8) : sProp 𝕄 := semVal (dmaCell b r c k) 0

variable {c} in
theorem ownBut_store {k : Fin 8} {S : Finset (Fin 8)} (hk : k ∉ S) (f : (cc0_stg2_0 : Ref sig .tc).ty.Contents (Elt F)) (hf : OwnBut m c (insert k S) f) :
    OwnBut m c S ((oM.access (outR c false k)).write (Elt F) f (outRows m c false k) Finset.univ) := fun k' hk' => by
  by_cases e : k' = k
  · subst e; exact holds_store ..
  · exact holds_keep m c (fun h => e (Prod.mk.inj h).2) (hf k' (by simp [e, hk'])) _

variable {c} in
theorem farBut_store {k : Fin 8} {S : Finset (Fin 8)} (hk : k ∉ S) (f : (cc0_stg2_0 : Ref sig .tc).ty.Contents (Elt F)) (hf : FarBut m c (insert k S) f) :
    FarBut m c S ((oM.access (outR c true k)).write (Elt F) f (outRows m c true k) Finset.univ) :=
  ⟨fun k' => holds_keep m c (fun h => Bool.noConfusion (Prod.mk.inj h).1) (hf.1 k') _, fun k' hk' => by
    by_cases e : k' = k
    · subst e; exact holds_store ..
    · exact holds_keep m c (fun h => e (Prod.mk.inj h).2) (hf.2 k' (by simp [e, hk'])) _⟩

/-! ## The copies -/

/-- A chunk stored where axis `b`'s copies leave from, then copied. -/
theorem wp_push (b : Bool) (hS : (srcM b).IsWhole) (hD : (dstM b).IsWhole) {hsc : ∀ k, (slot (dstM b) k).view.ref.isScScratch = false}
    (k : Fin 8) (O : CellTallies nD τ sig Unit) (Kt : PUnit → sProp 𝕄) :
    iprop(ctx m K ∗ chunkAny c (srcM b) k ∗ ticket b c k ∗ owing c (O + tallyAt (dmaCell b true (nb b c) k) () N)
        ∗ ((pending b false c k ∗ owing c O) -∗ Kt ⟨⟩))
      ⊢ wpK c (putSlot (srcM b) hS k (sentAt m b c k) >>= fun _ => copySlot (srcM b) hS (dstM b) hD (semA b false) (semA b true) (nb b c) k (hsc k)) Kt := by
  rw [wpK_bind]
  unfold owing
  iintro ⟨#Hctx, Hs, Ht, HO, Hk⟩
  iapply (wp_putSlot (srcM b) hS c k)
  isplitl [Hs]; · iexact Hs
  iintro Hs
  iapply (wp_copySlot m K c k b hS hD O)
  isplitr; · iexact Hctx
  isplitl [Hs]; · iexact Hs
  isplitl [Ht]; · iexact Ht
  isplitl [HO]; · iexact HO
  iexact Hk

/-- The rows of chunk `k` of half `h`, stored into the result, and what follows. -/
theorem wp_putRows (h : Bool) (k : Fin 8) {hl} {hst} {ho} (P P' : (cc0_stg2_0 : Ref sig .tc).ty.Contents (Elt F) → Prop)
    (hP : ∀ f, P f → P' ((oM.access (outR c h k)).write (Elt F) f (outRows m c h k) Finset.univ))
    (q : PUnit → KProg F PUnit) (Kt : PUnit → sProp 𝕄) :
    iprop(outPts c P ∗ (outPts c P' -∗ wpK c (q ⟨⟩) Kt))
      ⊢ wpK c ((Prog.lift (.load oM (outR c h k).toLoadRect hl) : KProg F _) >>= fun _ =>
          (Prog.lift (.store oM (outR c h k) (outRows m c h k) Finset.univ hst ho) : KProg F _) >>= q) Kt := by
  simp only [Prog.lift, Prog.bind_op, Prog.bind_ret]
  unfold outPts
  iintro ⟨⟨%f, %hf, H⟩, Hk⟩
  iapply (wp_load_rect 𝒱₀ (c : Thread nD τ) none Set.univ (m := oM) (r := outR c h k) (Finset.subset_univ _)) $$ H; iintro H
  iapply (wp_store 𝒱₀ (c : Thread nD τ) none Set.univ (m := oM) (r := outR c h k) (Mk := Finset.univ) (Finset.subset_univ _)) $$ H; iintro H
  iapply Hk
  iexists _
  isplitr; · ipureintro; exact hP f hf
  iexact H

/-! ## The first loop -/

theorem wp_sendStep (k : Fin 8) (S : Finset (Fin 8)) (hk : k ∉ S) (Kt : PUnit → sProp 𝕄) :
    iprop(ctx m K ∗ (chunkAny c xsM k ∗ ticket false c k) ∗ owing c (debt true c Finset.univ + debt false c (insert k S))
        ∗ ((pending false false c k ∗ owing c (debt true c Finset.univ + debt false c S)) -∗ Kt ⟨⟩))
      ⊢ wpK c (sendStep c (prodAt m c) k) Kt := by
  rw [debt_insert false c hk, ← add_assoc]
  iintro ⟨#Hctx, ⟨Hs, Ht⟩, HO, Hk⟩
  iapply (wp_push m K c false (Memref.isWhole_whole _) (Memref.isWhole_whole _) (hsc := fun _ => rfl) k (debt true c Finset.univ + debt false c S) Kt)
  isplitr; · iexact Hctx
  isplitl [Hs]; · iexact Hs
  isplitl [Ht]; · iexact Ht
  isplitl [HO]; · iexact HO
  iexact Hk

/-! ## The second -/

theorem wp_relayStep (k : Fin 8) (S : Finset (Fin 8)) (hk : k ∉ S) (Kt : PUnit → sProp 𝕄) :
    iprop(ctx m K ∗ (pending false true c k ∗ chunkAny c ysM k ∗ ticket true c k)
        ∗ (owing c (debt true c (insert k S)) ∗ outPts c (OwnBut m c (insert k S)))
        ∗ (((chunkAny c xrM k ∗ closed c false true k ∗ pending true false c k) ∗ (owing c (debt true c S) ∗ outPts c (OwnBut m c S))) -∗ Kt ⟨⟩))
      ⊢ wpK c (relayStep c (prodAt m c) k) Kt := by
  unfold relayStep
  rw [wpK_bind]
  iintro ⟨#Hctx, ⟨Hp, Hs, Ht⟩, ⟨HO, Hout⟩, Hk⟩
  unfold owing
  iapply (wp_waitSlot m K c k false true xsM xrM (Memref.isWhole_whole _) (Memref.isWhole_whole _) (debt true c (insert k S)) (mayWait_first c k (insert k S)))
  isplitr; · iexact Hctx
  isplitl [Hp]; · iexact Hp
  isplitl [HO]; · iexact HO
  iintro ⟨Hr, Hz, HO⟩
  unfold slotPay recvPay
  dsimp only
  icases Hr with ⟨%f, %hf, Hr⟩
  rw [wpK_bind]
  iapply (wp_getSlot xrM c k f)
  isplitl [Hr]; · iexact Hr
  iintro Hr
  rw [show chunkAt xrM k f = pack (part k (prodAt m (nb false c))) from hf]
  iapply (wp_putRows m c false k (OwnBut m c (insert k S)) (OwnBut m c S) (fun f hf => ownBut_store m hk f hf) _ Kt)
  isplitl [Hout]; · iexact Hout
  iintro Hout
  iapply (wp_push m K c true (Memref.isWhole_whole _) (Memref.isWhole_whole _) (hsc := fun _ => rfl) k (debt true c S) Kt)
  rw [← debt_insert true c hk]
  isplitr; · iexact Hctx
  isplitl [Hs]; · iexact Hs
  isplitl [Ht]; · iexact Ht
  isplitl [HO]; · unfold owing; iexact HO
  iintro ⟨Hp, HO⟩
  iapply Hk
  isplitr [HO Hout]
  · isplitl [Hr]; · iexists _; iexact Hr
    isplitl [Hz]; · iexact Hz
    iexact Hp
  isplitl [HO]; · unfold owing; iexact HO
  iexact Hout

/-! ## The third -/

theorem wp_finishStep (k : Fin 8) (S : Finset (Fin 8)) (hk : k ∉ S) (Kt : PUnit → sProp 𝕄) :
    iprop(ctx m K ∗ pending true true c k ∗ (owing c 0 ∗ outPts c (FarBut m c (insert k S)))
        ∗ (((chunkAny c yrM k ∗ closed c true true k) ∗ (owing c 0 ∗ outPts c (FarBut m c S))) -∗ Kt ⟨⟩))
      ⊢ wpK c (finishStep c k) Kt := by
  unfold finishStep
  rw [wpK_bind]
  iintro ⟨#Hctx, Hp, ⟨HO, Hout⟩, Hk⟩
  unfold owing
  iapply (wp_waitSlot m K c k true true ysM yrM (Memref.isWhole_whole _) (Memref.isWhole_whole _) 0 (by rw [MayWait_zero]; iintro -; iempintro))
  isplitr; · iexact Hctx
  isplitl [Hp]; · iexact Hp
  isplitl [HO]; · iexact HO
  iintro ⟨Hr, Hz, HO⟩
  unfold slotPay recvPay
  dsimp only
  icases Hr with ⟨%f, %hf, Hr⟩
  rw [wpK_bind]
  iapply (wp_getSlot yrM c k f)
  isplitl [Hr]; · iexact Hr
  iintro Hr
  rw [show chunkAt yrM k f = sentAt m true (nb true c) k from hf]
  iapply (wp_putRows m c true k (FarBut m c (insert k S)) (FarBut m c S) (fun f hf => farBut_store m hk f hf) Prog.ret Kt)
  isplitl [Hout]; · iexact Hout
  iintro Hout
  unfold wpK
  rw [wp_ret]; imodintro
  iapply Hk
  isplitr [HO Hout]
  · isplitl [Hr]; · iexists _; iexact Hr
    iexact Hz
  isplitl [HO]; · iexact HO
  iexact Hout

/-! ## The last -/

theorem wp_drainStep (k : Fin 8) (S : Finset (Fin 8)) (hk : k ∉ S) (Kt : PUnit → sProp 𝕄) :
    iprop(ctx m K ∗ (pending false false c k ∗ pending true false c k) ∗ owing c 0
        ∗ ((((chunkAny c xsM k ∗ closed c false false k) ∗ (chunkAny c ysM k ∗ closed c true false k)) ∗ owing c 0) -∗ Kt ⟨⟩))
      ⊢ wpK c (drainStep k) Kt := by
  unfold drainStep
  rw [wpK_bind]
  iintro ⟨#Hctx, ⟨Hx, Hy⟩, HO, Hk⟩
  unfold owing
  iapply (wp_waitSlot m K c k false false xrM xsM (Memref.isWhole_whole _) (Memref.isWhole_whole _) 0 (by rw [MayWait_zero]; iintro -; iempintro))
  isplitr; · iexact Hctx
  isplitl [Hx]; · iexact Hx
  isplitl [HO]; · iexact HO
  iintro ⟨Hx, Hxz, HO⟩
  iapply (wp_waitSlot m K c k true false yrM ysM (Memref.isWhole_whole _) (Memref.isWhole_whole _) 0 (by rw [MayWait_zero]; iintro -; iempintro))
  isplitr; · iexact Hctx
  isplitl [Hy]; · iexact Hy
  isplitl [HO]; · iexact HO
  iintro ⟨Hy, Hyz, HO⟩
  iapply Hk
  unfold slotPay sendPay
  dsimp only
  isplitr [HO]
  · isplitl [Hx Hxz]
    · isplitl [Hx]; · iexact Hx
      iexact Hxz
    · isplitl [Hy]; · iexact Hy
      iexact Hyz
  iexact HO

/-! ## The loops -/

/-- Something held of every chunk. -/
abbrev allK (P : Fin 8 → sProp 𝕄) : sProp 𝕄 := bigSep (Finset.univ : Finset (Fin 8)) P

theorem chunks_nodup : chunks.Nodup := by decide
theorem chunks_all : chunks.toFinset = Finset.univ := by decide

/-- The first loop: every chunk of the product stored and copied along axis 0. -/
theorem wp_sends (Kt : PUnit → sProp 𝕄) :
    iprop(ctx m K ∗ allK (fun k => iprop(chunkAny c xsM k ∗ ticket false c k)) ∗ owing c (debt true c Finset.univ + debt false c Finset.univ)
        ∗ ((allK (fun k => pending false false c k) ∗ owing c (debt true c Finset.univ)) -∗ Kt ⟨⟩))
      ⊢ wpK c (each (sendStep c (prodAt m c)) chunks) Kt := by
  have h := wp_each c (sendStep c (prodAt m c)) (ctx m K) (fun k => iprop(chunkAny c xsM k ∗ ticket false c k)) (fun k => pending false false c k)
    (fun S => owing c (debt true c Finset.univ + debt false c S)) (fun k S hk Kt => wp_sendStep m K c k S hk Kt) chunks chunks_nodup Kt
  rwa [chunks_all, debt_empty, add_zero] at h

/-- The second: every chunk arriving along axis 0 added to the product's own, stored, and copied along axis 1. -/
theorem wp_relays (Kt : PUnit → sProp 𝕄) :
    iprop(ctx m K ∗ allK (fun k => iprop(pending false true c k ∗ chunkAny c ysM k ∗ ticket true c k))
        ∗ (owing c (debt true c Finset.univ) ∗ outPts c (OwnBut m c Finset.univ))
        ∗ ((allK (fun k => iprop(chunkAny c xrM k ∗ closed c false true k ∗ pending true false c k)) ∗ (owing c 0 ∗ outPts c (OwnBut m c ∅))) -∗ Kt ⟨⟩))
      ⊢ wpK c (each (relayStep c (prodAt m c)) chunks) Kt := by
  have h := wp_each c (relayStep c (prodAt m c)) (ctx m K) (fun k => iprop(pending false true c k ∗ chunkAny c ysM k ∗ ticket true c k))
    (fun k => iprop(chunkAny c xrM k ∗ closed c false true k ∗ pending true false c k))
    (fun S => iprop(owing c (debt true c S) ∗ outPts c (OwnBut m c S))) (fun k S hk Kt => wp_relayStep m K c k S hk Kt) chunks chunks_nodup Kt
  rwa [chunks_all, debt_empty] at h

/-- The third: every chunk arriving along axis 1 stored. -/
theorem wp_finishes (Kt : PUnit → sProp 𝕄) :
    iprop(ctx m K ∗ allK (fun k => pending true true c k) ∗ (owing c 0 ∗ outPts c (FarBut m c Finset.univ))
        ∗ ((allK (fun k => iprop(chunkAny c yrM k ∗ closed c true true k)) ∗ (owing c 0 ∗ outPts c (FarBut m c ∅))) -∗ Kt ⟨⟩))
      ⊢ wpK c (each (finishStep c) chunks) Kt := by
  have h := wp_each c (finishStep c) (ctx m K) (fun k => pending true true c k) (fun k => iprop(chunkAny c yrM k ∗ closed c true true k))
    (fun S => iprop(owing c 0 ∗ outPts c (FarBut m c S))) (fun k S hk Kt => wp_finishStep m K c k S hk Kt) chunks chunks_nodup Kt
  rwa [chunks_all] at h

/-- The last: every copy's source back. -/
theorem wp_drains (Kt : PUnit → sProp 𝕄) :
    iprop(ctx m K ∗ allK (fun k => iprop(pending false false c k ∗ pending true false c k)) ∗ owing c 0
        ∗ ((allK (fun k => iprop((chunkAny c xsM k ∗ closed c false false k) ∗ (chunkAny c ysM k ∗ closed c true false k))) ∗ owing c 0) -∗ Kt ⟨⟩))
      ⊢ wpK c (each drainStep chunks) Kt := by
  have h := wp_each c drainStep (ctx m K) (fun k => iprop(pending false false c k ∗ pending true false c k))
    (fun k => iprop((chunkAny c xsM k ∗ closed c false false k) ∗ (chunkAny c ysM k ∗ closed c true false k)))
    (fun _ => owing c 0) (fun k S hk Kt => wp_drainStep m K c k S hk Kt) chunks chunks_nodup Kt
  rwa [chunks_all] at h

end Cert.KProof

end
-- ==== Proof.Held.lean ====
/-
# What a device holds when its kernel starts, and when it ends

Before: every cell's record, its own cells' positions, the right to pay its neighbours' arrivals and its own sends, the
credit its neighbours owe it, and its four scratch buffers. After: the buffers and every cell's counter at zero.
-/
module

public import proofs.«01_k».proof.Proof.Turns

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option Slot → ℕ) (c : Dev nD)

/-! ## Families over the cells, listed -/

theorem bigSep_bool (Φ : Bool → sProp 𝕄) : bigSep Finset.univ Φ = iprop(Φ false ∗ Φ true) :=
  bigSep_univ_eq_bigSepL [false, true] (by decide) (by decide) Φ

theorem bigSep_option {A : Type} [Fintype A] [DecidableEq A] (Φ : Option A → sProp 𝕄) :
    bigSep Finset.univ Φ = iprop(Φ none ∗ bigSep Finset.univ fun a => Φ (some a)) := by
  have h : (Finset.univ : Finset (Option A)) = insert none (Finset.univ.map .some) := by
    ext a; cases a <;> simp
  rw [h, bigSep_put (by simp), bigSep_map]
  rfl

/-- A family over a device's DMA cells: per axis, its sends' and its arrivals'. -/
theorem bigSep_slots (Φ : Slot → sProp 𝕄) :
    bigSep Finset.univ Φ = iprop((allK (fun k => Φ (false, false, k)) ∗ allK fun k => Φ (false, true, k))
      ∗ (allK (fun k => Φ (true, false, k)) ∗ allK fun k => Φ (true, true, k))) := by
  rw [bigSep_univ_prod, bigSep_bool, bigSep_univ_prod, bigSep_univ_prod, bigSep_bool, bigSep_bool]

/-! ## Before -/

/-- Every cell of the device's own at its one round. -/
def positions : sProp 𝕄 := bigSep Finset.univ fun i : Option Slot => atPos ER (kcell (c, i)) 0 ∅ 0

/-- The right to signal the neighbour along axis `b`, and to pay each arrival there and each send here. -/
def rights (b : Bool) : sProp 𝕄 :=
  iprop(dutyTok ER (barCell (nb b c)) 0 b
    ∗ (allK (fun k => dutyTok ER (dmaCell b true (nb b c) k) 0 false) ∗ allK fun k => dutyTok ER (dmaCell b false c k) 0 false))

/-- What the neighbours owe: the two signals, and each axis's arrivals. -/
def credits : sProp 𝕄 :=
  iprop(cred (tallyAt (barCell c) () 2) ∗ bigSep Finset.univ fun bk : Bool × Fin 8 => cred (tallyAt (dmaCell bk.1 true c bk.2) () N))

/-- Device `c`'s share of the protocol. -/
def ghost : sProp 𝕄 := iprop(records m K ∗ positions c ∗ rights c false ∗ rights c true)

/-- A buffer, at any contents. -/
abbrev bufAny (M : Memref sig .tc .vmem S8x64x1024 .bf16) : sProp 𝕄 := iprop(∃ f, bufPts M c f)

/-- The four scratch buffers. -/
def scratch : sProp 𝕄 := iprop(bufAny c xsM ∗ bufAny c xrM ∗ bufAny c ysM ∗ bufAny c yrM)

def start : sProp 𝕄 := iprop((∃ K, ghost m K c) ∗ credits c ∗ levAts L lv)

/-! ## After -/

/-- Every cell of the device's own closed at zero. -/
def closedAll : sProp 𝕄 := iprop(semVal (barCell c) 0 ∗ bigSep Finset.univ fun i : Slot => semVal ((c : Thread nD τ), osem i) 0)

/-! ## In the shape the loops take and leave -/

theorem bufAny_split (M : Memref sig .tc .vmem S8x64x1024 .bf16) : (bufAny c M : sProp 𝕄) ⊢ allK (chunkAny c M) := by
  iintro ⟨%f, H⟩
  iapply (bufPts_split M c f)
  iexact H

/-- One axis's tickets, from the neighbour's landing buffer and the rights. -/
theorem tickets_intro (b : Bool) :
    iprop(barPay b c ∗ allK (fun k => dutyTok ER (dmaCell b true (nb b c) k) 0 false) ∗ allK (fun k => dutyTok ER (dmaCell b false c k) 0 false)
        ∗ allK (fun k => atPos ER (dmaCell b false c k) 0 ∅ 0))
      ⊢ (allK (ticket b c) : sProp 𝕄) := by
  unfold ticket barPay allK
  simp only [bigSep_sep']
  exact Entails.of_eq rfl

/-- One axis's waits to come, from the credit and the positions. -/
theorem pending_intro (b : Bool) :
    iprop(allK (fun k => cred (tallyAt (dmaCell b true c k) () N)) ∗ allK fun k => atPos ER (dmaCell b true c k) 0 ∅ 0)
      ⊢ (allK (pending b true c) : sProp 𝕄) := by
  unfold pending allK
  simp only [bigSep_sep']
  exact Entails.of_eq rfl

/-- What the second loop leaves: the arrivals done, the sends to come. -/
theorem relayed_elim :
    allK (fun k => iprop(chunkAny c xrM k ∗ closed c false true k ∗ pending true false c k))
      ⊢ (iprop(allK (fun k => iprop(chunkAny c xrM k ∗ closed c false true k)) ∗ allK (pending true false c)) : sProp 𝕄) := by
  refine (bigSep_mono fun k _ => ?_).trans (Entails.of_eq (bigSep_sep' ..))
  exact BI.sep_assoc'

/-- The own half in place, none of the other's chunks is asked of the third loop's start. -/
theorem farBut_start : outPts c (OwnBut m c ∅) ⊢ outPts c (FarBut m c Finset.univ) := by
  unfold outPts
  iintro ⟨%f, %hf, H⟩
  iexists f
  isplitr
  · ipureintro
    exact ⟨fun k => hf k (Finset.notMem_empty k), fun k hk => absurd (Finset.mem_univ k) hk⟩
  iexact H

/-- Two families held are their pairs held, and back. -/
theorem zip_intro (P Q : Fin 8 → sProp 𝕄) : iprop(allK P ∗ allK Q) ⊢ allK fun k => iprop(P k ∗ Q k) := Entails.of_eq (bigSep_sep' ..).symm
theorem zip_elim (P Q : Fin 8 → sProp 𝕄) : (allK fun k => iprop(P k ∗ Q k)) ⊢ iprop(allK P ∗ allK Q) := Entails.of_eq (bigSep_sep' ..)

include m in
theorem bufAny_join (M : Memref sig .tc .vmem S8x64x1024 .bf16) : (allK (chunkAny c M) : sProp 𝕄) ⊢ bufAny c M :=
  bufPts_join M c (m (M.view.loc (c : Thread nD τ)))

include m in
/-- What the loops leave is the scratch buffers and every DMA cell closed. -/
theorem left_intro :
    iprop(allK (fun k => iprop((chunkAny c xsM k ∗ closed c false false k) ∗ (chunkAny c ysM k ∗ closed c true false k)))
        ∗ allK (fun k => iprop(chunkAny c xrM k ∗ closed c false true k)) ∗ allK (fun k => iprop(chunkAny c yrM k ∗ closed c true true k))
        ∗ semVal (barCell c) 0)
      ⊢ (iprop(scratch c ∗ closedAll c) : sProp 𝕄) := by
  unfold scratch closedAll
  rw [bigSep_slots]
  iintro ⟨Hs, Hx, Hy, Hb⟩
  ihave Hs' := (zip_elim _ _) $$ Hs
  icases Hs' with ⟨Hxs, Hys⟩
  ihave Hx' := (zip_elim _ _) $$ Hx
  icases Hx' with ⟨Hx, Hzx⟩
  ihave Hy' := (zip_elim _ _) $$ Hy
  icases Hy' with ⟨Hy, Hzy⟩
  ihave Hxs' := (zip_elim _ _) $$ Hxs
  icases Hxs' with ⟨Hxs, Hzxs⟩
  ihave Hys' := (zip_elim _ _) $$ Hys
  icases Hys' with ⟨Hys, Hzys⟩
  isplitr [Hb Hzx Hzy Hzxs Hzys]
  · isplitl [Hxs]; · iapply (bufAny_join m c xsM); iexact Hxs
    isplitl [Hx]; · iapply (bufAny_join m c xrM); iexact Hx
    isplitl [Hys]; · iapply (bufAny_join m c ysM); iexact Hys
    iapply (bufAny_join m c yrM); iexact Hy
  isplitl [Hb]; · iexact Hb
  isplitl [Hzxs Hzx]
  · isplitl [Hzxs]; · iexact Hzxs
    iexact Hzx
  · isplitl [Hzys]; · iexact Hzys
    iexact Hzy

end Cert.KProof

end
-- ==== Proof.Body.lean ====
/-
# The body, run

From what a device holds at the start, one rule per statement of the opening and one per loop, to the result in place and
everything returned; and so the pipeline's obligation for the body.
-/
module

public import proofs.«01_k».proof.Proof.Held

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The region's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => dyAt m c
    | ⟨1, _⟩ => wAt m c
    | ⟨2, _⟩ => outAt m c
  Φ t := match t with
    | ⟨0, _⟩ => iprop(start m c ∗ scratch c)
    | ⟨_ + 1, _⟩ => iprop(scratch c ∗ closedAll c)
  q _ := fullShare
  owed t := match t with
    | ⟨0, _⟩ => O₀ c
    | ⟨_ + 1, _⟩ => 0

/-- A staging buffer at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop((start m c ∗ scratch c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop((scratch c ∗ closedAll c) ∗ (dats m ρ 0 c).owesAt () t0_0.succ
    ∗ stg c cc0_stg0_0 (dyAt m c) ∗ stg c cc0_stg1_0 (wAt m c) ∗ stg c cc0_stg2_0 (outAt m c))

/-! ## The opening -/

section Opening
variable (K : Dev nD × Option Slot → ℕ)

/-- The signal to the neighbour along axis `b`, with the device's own landing buffer for that axis. -/
theorem wp_sign (c : Dev nD) (b : Bool) (O : CellTallies nD τ sig Unit) (q : PUnit → KProg F PUnit) (Kt : PUnit → sProp 𝕄) :
    iprop(ctx m K ∗ dutyTok ER (barCell (nb b c)) 0 b ∗ bufAny c (dstM b) ∗ owing c (O + tallyAt (barCell (nb b c)) () 1)
        ∗ (owing c O -∗ wpK c (q ⟨⟩) Kt))
      ⊢ wpK c (semSignalWord (nb b c) barS 1#32 >>= q) Kt := by
  simp only [semSignalWord, Prog.lift, Prog.bind_op, Prog.bind_ret]
  unfold owing
  iintro ⟨#Hctx, Ht, Hb, ⟨%W, HO⟩, Hk⟩
  iapply (Rounds.wp_signal 𝒱₀ ER (sched m) (c : Thread nD τ) none (dst := (nb b c : Thread nD τ)) (κ := K (nb b c, none))
      (d := b) (mem_duties_bar m (nb b c) b) ((amount_bar m (nb b c) b).trans (by decide)) () O rfl) $$ [HO Ht Hb]
  · isplitr; · iapply (ctx_inv m K (nb b c, none)); iexact Hctx
    isplitl [HO]; · iexact HO
    isplitl [Ht]; · iexact Ht
    isplitl [Hb]
    · rw [payload_bar]; unfold barPay; rw [nb_nb]
      iapply (bufAny_split c (dstM b)); iexact Hb
    · iapply (ctx_reached m K (nb b c, none)); iexact Hctx
  iintro HO
  iapply Hk
  iexists W
  iexact HO

/-- The wait for both neighbours: their landing buffers, and the barrier cell closed at zero. -/
theorem wp_meet (c : Dev nD) (q : PUnit → KProg F PUnit) (Kt : PUnit → sProp 𝕄) :
    iprop(ctx m K ∗ cred (tallyAt (barCell c) () 2) ∗ atPos ER (barCell c) 0 ∅ 0 ∗ owing c (O₂ c)
        ∗ ((owing c (O₂ c) ∗ barPay false c ∗ barPay true c ∗ semVal (barCell c) 0) -∗ wpK c (q ⟨⟩) Kt))
      ⊢ wpK c (semWaitWord barS 2#32 >>= q) Kt := by
  simp only [semWaitWord, Prog.lift, Prog.bind_op, Prog.bind_ret]
  unfold owing
  iintro ⟨#Hctx, Hc, Hat, ⟨%W, HO⟩, Hk⟩
  iapply (Rounds.wp_wait_rest_token 𝒱₀ ER (sched m) (c : Thread nD τ) none (κ := K (c, none))
      (wpE_semWait_eq 𝒱₀ (c : Thread nD τ) none Set.univ) (Set.mem_univ _) () (O := O₂ c) (W := W) (R := 0) (m := 0) (T := ∅)
      (by rw [expect_bar]; decide)) $$ [Hc HO Hat]
  · isplitr; · iapply (ctx_inv m K (c, none)); iexact Hctx
    isplitl [Hc]; · iexact Hc
    isplitl [HO]; · iexact HO
    isplitr; · iapply (mayWait_bar c); iapply (ctx_lev m K); iexact Hctx
    iexact Hat
  iintro ⟨HO, Hat, -, Hpay⟩
  ihave Hp := (Entails.of_eq (rest_bar m c)) $$ Hpay
  icases Hp with ⟨Hx, Hy⟩
  imod (Rounds.cell_close ER (sched m) (Set.mem_univ (K (c, none))) (fun h => h) (R := 0 + 1) (duties_later m (barCell c))) $$ [Hat] with Hz
  · isplitr; · iapply (ctx_inv m K (c, none)); iexact Hctx
    iexact Hat
  iapply Hk
  isplitl [HO]; · iexists _; iexact HO
  isplitl [Hx]; · iexact Hx
  isplitl [Hy]; · iexact Hy
  iexact Hz

/-- A device asks which it is. -/
theorem wpK_who (c : Dev nD) (q : Dev nD → KProg F PUnit) (Kt : PUnit → sProp 𝕄) :
    wpK c ((Prog.lift .deviceId : KProg F _) >>= q) Kt = wpK c (q c) Kt := by
  simp only [wpK, Prog.lift, Prog.bind_op, Prog.bind_ret, wp_deviceId]

/-- A staged block loaded. -/
theorem wp_read (c : Dev nD) {s : Shape} {e : EltTy} (M : Memref sig .tc .vmem s e) (r : Rect s) (X) {hl} (q : _ → KProg F PUnit)
    (Kt : PUnit → sProp 𝕄) :
    iprop((M.view.loc (c : Thread nD τ) ↦{fullShare} X) ∗ ((M.view.loc (c : Thread nD τ) ↦{fullShare} X) -∗ wpK c (q (M.view.readAt (Elt F) r.toLoadRect X)) Kt))
      ⊢ wpK c ((Prog.lift (.load M r.toLoadRect hl) : KProg F _) >>= q) Kt := by
  simp only [Prog.lift, Prog.bind_op, Prog.bind_ret]
  iintro ⟨H, Hk⟩
  iapply (wp_load 𝒱₀ (c : Thread nD τ) none Set.univ (m := M) (Finset.subset_univ _)) $$ H; iintro H
  iapply Hk
  iexact H

end Opening

/-! ## The body -/

theorem sound_body (c : Dev nD) (Kt : PUnit → sProp 𝕄) :
    iprop(bodyPre m ρ c ∗ (bodyPost m ρ c -∗ Kt ⟨⟩)) ⊢ wpK c (printed (F := F)) Kt := by
  rw [body_eq_steps]
  unfold bodyPre start ghost scratch credits positions rights
  rw [bigSep_option, bigSep_slots, bigSep_univ_prod, bigSep_bool]
  iintro ⟨⟨⟨⟨⟨%K, #Hrec, ⟨HatB, ⟨HatXs, HatXr⟩, ⟨HatYs, HatYr⟩⟩, ⟨HtBx, HtXr, HtXs⟩, ⟨HtBy, HtYr, HtYs⟩⟩, ⟨HcB, HcX, HcY⟩, #Hlev⟩,
      ⟨Hxs, Hxr, Hys, Hyr⟩⟩, Ho, ⟨%d0, %g0, %hg0, Hdy⟩, ⟨%d1, %g1, %hg1, Hw⟩, ⟨%d2, %g2, %hg2, Hout⟩⟩, Hk⟩
  have hx : g0 = dyAt m c := by rw [hg0]; unfold Dat.before; rw [if_pos (fetch0_0 t0_0)]; rfl
  have hy : g1 = wAt m c := by rw [hg1]; unfold Dat.before; rw [if_pos (fetch0_1 t0_0)]; rfl
  subst hx hy
  unfold Dat.owesAt Pipeline.owesWithin
  icases Ho with ⟨%W, %hW, HO⟩
  rw [show (dats m ρ 0 c).owed t0_0.castSucc = O₁ c + tallyAt (barCell (nb false c)) () 1 from rfl]
  ihave #Hctx : ctx m K $$ []
  · unfold ctx
    isplitl; · iexact Hrec
    iexact Hlev
  unfold steps
  rw [wpK_who]
  -- the two signals: each neighbour gets this device's landing buffer for its axis
  iapply (wp_sign m K c false (O₁ c) _ Kt)
  isplitr; · iexact Hctx
  isplitl [HtBx]; · iexact HtBx
  isplitl [Hxr]; · iexact Hxr
  isplitl [HO]; · unfold owing; iexists W; iexact HO
  iintro HO
  unfold O₁
  iapply (wp_sign m K c true (O₂ c) _ Kt)
  isplitr; · iexact Hctx
  isplitl [HtBy]; · iexact HtBy
  isplitl [Hyr]; · iexact Hyr
  isplitl [HO]; · iexact HO
  iintro HO
  -- the wait: both neighbours' landing buffers
  iapply (wp_meet m K c _ Kt)
  isplitr; · iexact Hctx
  isplitl [HcB]; · iexact HcB
  isplitl [HatB]; · iexact HatB
  isplitl [HO]; · iexact HO
  iintro ⟨HO, Hpx, Hpy, HzB⟩
  -- the two staged blocks
  iapply (wp_read c dyM (dyR c) (dyAt m c) _ Kt)
  isplitl [Hdy]; · iexact Hdy
  iintro Hdy
  iapply (wp_read c wM wR (wAt m c) _ Kt)
  isplitl [Hw]; · iexact Hw
  iintro Hw
  -- every chunk of the product sent along axis 0
  rw [wpK_bind]
  iapply (wp_sends m K c)
  isplitr; · iexact Hctx
  isplitl [Hxs Hpx HtXr HtXs HatXs]
  · iapply (zip_intro _ _)
    isplitl [Hxs]; · iapply (bufAny_split c xsM); iexact Hxs
    iapply (tickets_intro c false)
    isplitl [Hpx]; · iexact Hpx
    isplitl [HtXr]; · iexact HtXr
    isplitl [HtXs]; · iexact HtXs
    iexact HatXs
  isplitl [HO]; · unfold O₂; iexact HO
  iintro ⟨Hxsent, HO⟩
  -- every chunk arriving along axis 0 added, stored, and sent along axis 1
  rw [wpK_bind]
  iapply (wp_relays m K c)
  isplitr; · iexact Hctx
  isplitl [HcX HatXr Hys Hpy HtYr HtYs HatYs]
  · iapply (zip_intro _ _)
    isplitl [HcX HatXr]
    · iapply (pending_intro c false)
      isplitl [HcX]; · iexact HcX
      iexact HatXr
    iapply (zip_intro _ _)
    isplitl [Hys]; · iapply (bufAny_split c ysM); iexact Hys
    iapply (tickets_intro c true)
    isplitl [Hpy]; · iexact Hpy
    isplitl [HtYr]; · iexact HtYr
    isplitl [HtYs]; · iexact HtYs
    iexact HatYs
  isplitl [HO Hout]
  · isplitl [HO]; · iexact HO
    unfold outPts
    iexists g2
    isplitr; · ipureintro; exact fun k hk => absurd (Finset.mem_univ k) hk
    iexact Hout
  iintro ⟨Hmid, HO, Hout⟩
  ihave Hmid' := (relayed_elim c) $$ Hmid
  icases Hmid' with ⟨Hxr, Hysent⟩
  -- every chunk arriving along axis 1 stored
  rw [wpK_bind]
  iapply (wp_finishes m K c)
  isplitr; · iexact Hctx
  isplitl [HcY HatYr]
  · iapply (pending_intro c true)
    isplitl [HcY]; · iexact HcY
    iexact HatYr
  isplitl [HO Hout]
  · isplitl [HO]; · iexact HO
    iapply (farBut_start m c)
    iexact Hout
  iintro ⟨Hyr, HO, Hout⟩
  -- the sends waited for
  iapply (wp_drains m K c)
  isplitr; · iexact Hctx
  isplitl [Hxsent Hysent]
  · iapply (zip_intro _ _)
    isplitl [Hxsent]; · iexact Hxsent
    iexact Hysent
  isplitl [HO]; · iexact HO
  iintro ⟨Hs, HO⟩
  iapply Hk
  unfold bodyPost Dat.owesAt Pipeline.owesWithin outPts owing
  rw [show (dats m ρ 0 c).owed t0_0.succ = 0 from rfl]
  icases HO with ⟨%W', HO⟩
  icases Hout with ⟨%f, %hf, Hout⟩
  isplitl [Hs Hxr Hyr HzB]
  · iapply (left_intro m c)
    isplitl [Hs]; · iexact Hs
    isplitl [Hxr]; · iexact Hxr
    isplitl [Hyr]; · iexact Hyr
    iexact HzB
  isplitl [HO]
  · iexists W'
    isplitr; · ipureintro; exact fun _ _ => Or.inl trivial
    iexact HO
  isplitl [Hdy]
  · iexists _; isplitr; · (ipureintro; rfl)
    iexact Hdy
  isplitl [Hw]
  · iexists _; isplitr; · (ipureintro; rfl)
    iexact Hw
  iexists f
  isplitr
  · ipureintro
    exact eq_outAt m c f fun
      | false, k => hf.1 k
      | true, k => hf.2 k (Finset.notMem_empty k)
  iexact Hout

/-! ## The pipeline's obligation -/

set_option maxRecDepth 65536 in
/-- The body, at the pipeline's one step. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpK c (printed (F := F)) fun _ => bodyPost m ρ c
  iintro H
  iapply (sound_body m ρ c fun _ => bodyPost m ρ c)
  isplitl; · iexact H
  iintro H; iexact H

end Cert.KProof

end
-- ==== Proof.Deal.lean ====
/-
# What the launch deals each device

Every cell's round is opened, every cell gets its invariant, and each duty's token goes to the device that pays it: a
barrier's and an arrival's across the axis, a send's to the device itself. The credit of the launch is what each device's
neighbours owe it.
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

def allCells : Finset (GSem nD τ sig) := Finset.univ.map ⟨kcell, kcell_injective⟩

/-- A duty of a device's own cells: axis, and the barrier's (`none`) or a side's and a chunk's. -/
abbrev Duty : Type := Bool × Option (Bool × Fin 8)

abbrev tokOf : Dev nD × Duty → GSem nD τ sig × ℕ × Bool
  | (c, b, none) => (barCell c, 0, b)
  | (c, b, some (r, k)) => (dmaCell b r c k, 0, false)

theorem tokOf_injective : Function.Injective tokOf := by
  rintro ⟨c, b, _ | ⟨r, k⟩⟩ ⟨c', b', _ | ⟨r', k'⟩⟩ h
  · have h1 : (c, (none : Option Slot)) = (c', none) := kcell_injective (congrArg Prod.fst h)
    have h2 : b = b' := congrArg (fun x : GSem nD τ sig × ℕ × Bool => x.2.2) h
    rw [(Prod.mk.inj h1).1, h2]
  · exact absurd (kcell_injective (a₁ := (c, none)) (a₂ := (c', some (b', r', k'))) (congrArg Prod.fst h)) fun e => by cases e
  · exact absurd (kcell_injective (a₁ := (c, some (b, r, k))) (a₂ := (c', none)) (congrArg Prod.fst h)) fun e => by cases e
  · have h1 := kcell_injective (a₁ := (c, some (b, r, k))) (a₂ := (c', some (b', r', k'))) (congrArg Prod.fst h)
    cases h1; rfl

def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of device `c`'s own duties. -/
def toks (c : Dev nD) : sProp 𝕄 := bigSep Finset.univ fun d : Duty => dutyTok ER (tokOf (c, d)).1 (tokOf (c, d)).2.1 (tokOf (c, d)).2.2

/-- Axis `b`'s, listed. -/
def axisToks (c : Dev nD) (b : Bool) : sProp 𝕄 :=
  iprop(dutyTok ER (barCell c) 0 b
    ∗ (allK (fun k => dutyTok ER (dmaCell b false c k) 0 false) ∗ allK fun k => dutyTok ER (dmaCell b true c k) 0 false))

theorem toks_eq (c : Dev nD) : (toks c : sProp 𝕄) = iprop(axisToks c false ∗ axisToks c true) := by
  unfold toks axisToks
  rw [bigSep_univ_prod, bigSep_bool, bigSep_option, bigSep_option, bigSep_univ_prod, bigSep_univ_prod, bigSep_bool, bigSep_bool]

/-- What the launch deals device `c`, and what becomes of it. -/
def G (c : Dev nD) : sProp 𝕄 :=
  iprop((bigSep Finset.univ fun i : Option Slot => roundState ER (sched m) (kcell (c, i)) 0)
    ∗ (positions c ∗ bigSep Finset.univ fun i : Option Slot => reached ER (kcell (c, i)) 0) ∗ toks c)
def G' (c : Dev nD) : sProp 𝕄 := iprop(∃ K, ghost m K c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : Option Slot => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions
  simp only [bigSep_sep']
  isplitl [Hst']; · iexact Hst'
  isplitl [Hat' Hr']
  · isplitl [Hat'] <;> iassumption
  iexact Htok'

/-! ## The semaphores -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun i : Option Slot => semVal (kcell (c, i)) 0 : sProp 𝕄) := by
  rw [unscopedSems0_eq, bigSep_option]
  unfold Pipeline.ownSems0
  iintro ⟨H, HB⟩
  isplitl [HB]; · iexact HB
  iexact H

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Option Slot => iprop(∃ κ : ℕ, cellInv ER (sched m) κ (kcell (c, i))))
          ∗ (positions c ∗ bigSep Finset.univ fun i : Option Slot => reached ER (kcell (c, i)) 0) ∗ toks c) := by
  unfold G
  iintro ⟨Hos, Hus, Hst, Hat, Htok⟩
  ihave Hv := (sems0_intro (F := F) c) $$ [Hos Hus]
  · isplitl [Hos] <;> iassumption
  imod (show iprop((bigSep Finset.univ fun i : Option Slot => semVal (kcell (c, i)) 0) ∗ bigSep Finset.univ fun i : Option Slot => roundState ER (sched m) (kcell (c, i)) 0)
      ⊢ (|={Set.univ}=> bigSep Finset.univ fun i => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, to those who pay -/

/-- One axis's tokens: the barriers' and the arrivals' go across, the sends' stay. -/
theorem axis_around (b : Bool) : (bigSep Finset.univ fun c : Dev nD => (axisToks c b : sProp 𝕄)) ⊢ bigSep Finset.univ fun c : Dev nD => rights c b := by
  unfold axisToks rights
  rw [bigSep_sep', bigSep_sep', bigSep_sep', bigSep_sep',
    bigSep_univ_equiv (across b) (fun c : Dev nD => (dutyTok ER (barCell c) 0 b : sProp 𝕄)),
    bigSep_univ_equiv (across b) (fun c : Dev nD => (allK (fun k => dutyTok ER (dmaCell b true c k) 0 false) : sProp 𝕄))]
  iintro ⟨H1, H2, H3⟩
  isplitl [H1]; · iexact H1
  isplitl [H3]; · iexact H3
  iexact H2

theorem toks_around : (bigSep Finset.univ fun c : Dev nD => (toks c : sProp 𝕄))
    ⊢ iprop((bigSep Finset.univ fun c : Dev nD => rights c false) ∗ bigSep Finset.univ fun c : Dev nD => rights c true) := by
  simp only [toks_eq]
  rw [bigSep_sep']
  iintro ⟨H1, H2⟩
  isplitl [H1]
  · iapply (axis_around (F := F) false); iexact H1
  · iapply (axis_around (F := F) true); iexact H2

/-- What everyone knows, given to each of a family. -/
theorem share_records {A : Type} [DecidableEq A] {S : Finset A} {R : sProp 𝕄} [BI.Persistent R] {Φ Ψ : A → sProp 𝕄}
    (h : ∀ a ∈ S, iprop(R ∗ Φ a) ⊢ Ψ a) : iprop(R ∗ bigSep S Φ) ⊢ bigSep S Ψ :=
  (sep_mono_left (BI.bigSep_of_persistent S R)).trans (by rw [← bigSep_sep']; exact bigSep_mono h)

theorem ghost_intro (K : Dev nD × Option Slot → ℕ) (c : Dev nD) :
    iprop(records m K ∗ (positions c ∗ rights c false ∗ rights c true)) ⊢ G' m c := by
  unfold G' ghost
  iintro H
  iexists K
  iexact H

theorem regroup :
    (bigSep Finset.univ fun c : Dev nD => iprop((bigSep Finset.univ fun i : Option Slot => iprop(∃ κ : ℕ, cellInv ER (sched m) κ (kcell (c, i))))
          ∗ (positions c ∗ bigSep Finset.univ fun i : Option Slot => reached ER (kcell (c, i)) 0) ∗ toks c) : sProp 𝕄)
      ⊢ bigSep Finset.univ (G' m) := by
  rw [bigSep_sep', bigSep_sep', bigSep_sep',
    ← bigSep_univ_prod (fun ck : Dev nD × Option Slot => iprop(∃ κ : ℕ, cellInv ER (sched m) κ (kcell ck))),
    ← bigSep_univ_prod (fun ck : Dev nD × Option Slot => (reached ER (kcell ck) 0 : sProp 𝕄))]
  iintro ⟨HI, ⟨Hat, #HR⟩, Htok⟩
  ihave HK := (BI.bigSep_exists_pi Finset.univ (fun (ck : Dev nD × Option Slot) (κ : ℕ) => (cellInv ER (sched m) κ (kcell ck) : sProp 𝕄))) $$ HI
  icases HK with ⟨%K, #HI⟩
  ihave Htk := (toks_around (F := F)) $$ Htok
  iapply (share_records (R := records m K) fun c _ => ghost_intro m K c)
  isplitr
  · unfold records; isplitl; · iexact HI
    iexact HR
  · rw [bigSep_sep', bigSep_sep']
    isplitl [Hat]; · iexact Hat
    iexact Htk

/-- All devices' semaphores and shares at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit of the launch -/

theorem bar_eq_iff {a b : Dev nD} : barCell a = barCell b ↔ a = b :=
  ⟨fun h => (Prod.mk.inj (kcell_injective (a₁ := (a, none)) (a₂ := (b, none)) h)).1, fun h => h ▸ rfl⟩

/-- What device `d` owes device `c`'s barrier: a unit along each axis they are neighbours on. -/
theorem owed_bar (d c : Dev nD) : O₀ d (barCell c) () = (if d = nb true c then 1 else 0) + (if d = nb false c then 1 else 0) := by
  have h0 (b : Bool) : debt b d Finset.univ (barCell c) () = 0 := by
    rw [debt_apply]; exact Finset.sum_eq_zero fun k _ => if_neg fun e => dmaCell_ne_bar _ _ _ _ _ e.symm
  have h1 (b : Bool) : (if barCell c = barCell (nb b d) ∧ () = () then 1 else 0) = if d = nb b c then 1 else 0 :=
    if_congr ((and_iff_left rfl).trans (bar_eq_iff.trans (eq_comm.trans eq_nb_iff.symm))) rfl rfl
  unfold O₀ O₁ O₂
  rw [Pi.add_apply, Finsupp.add_apply, Pi.add_apply, Finsupp.add_apply, Pi.add_apply, Finsupp.add_apply, h0, h0, tallyAt_apply, tallyAt_apply, h1, h1,
    Nat.add_zero, Nat.zero_add]

/-- What it owes an arrival of `c`'s along axis `b`: a chunk's credit, if it is the neighbour there. -/
theorem owed_recv (b : Bool) (k : Fin 8) (d c : Dev nD) : O₀ d (dmaCell b true c k) () = if d = nb b c then N else 0 := by
  have h0 (b' : Bool) (h : b' ≠ b) : debt b' d Finset.univ (dmaCell b true c k) () = 0 := by
    rw [debt_apply]; exact Finset.sum_eq_zero fun k' _ => if_neg fun e => h (dmaCell_inj e).1.symm
  have h1 : debt b d Finset.univ (dmaCell b true c k) () = if d = nb b c then N else 0 := by
    rw [debt_apply, Finset.sum_eq_single k (fun k' _ h => if_neg fun e => h (dmaCell_inj e).2.2.2.symm) fun h => absurd (Finset.mem_univ k) h]
    refine if_congr ⟨fun e => eq_nb_iff.mpr (dmaCell_inj e).2.2.1.symm, fun e => by rw [eq_nb_iff.mp e]⟩ rfl rfl
  unfold O₀ O₁ O₂
  rw [Pi.add_apply, Finsupp.add_apply, Pi.add_apply, Finsupp.add_apply, Pi.add_apply, Finsupp.add_apply, tallyAt_apply, tallyAt_apply,
    if_neg fun e => dmaCell_ne_bar _ _ _ _ _ e.1, if_neg fun e => dmaCell_ne_bar _ _ _ _ _ e.1]
  cases b
  · rw [h0 true (by decide), h1, Nat.zero_add, Nat.add_zero]
  · rw [h0 false (by decide), h1, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]

theorem launch_recv (b : Bool) (c : Dev nD) (k : Fin 8) :
    tallyOn (dmaCell b true c k) (launchCredit (Pipeline.owing O₀) 0 (dmaCell b true c k)) = (tallyAt (dmaCell b true c k) () N : CellTallies nD τ sig Unit) := by
  unfold tallyAt; refine congrArg _ (Finsupp.ext fun u => ?_); cases u
  rw [Pipeline.launchCredit_owing, Finsupp.single_eq_same, Finset.sum_congr rfl fun d _ => owed_recv b k d c,
    Finset.sum_ite_eq' Finset.univ (nb b c) fun _ => N, if_pos (Finset.mem_univ _)]

/-- The arrivals' semaphores, as a family over axis and chunk. -/
def arrival (bk : Bool × Fin 8) : SemLoc sig := osem (bk.1, true, bk.2)
theorem arrival_injective : Function.Injective arrival := fun x y h => by
  have e := osem_injective h
  exact Prod.ext (congrArg (fun i : Slot => i.1) e) (congrArg (fun i : Slot => i.2.2) e)

theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ⟨arrival, arrival_injective⟩) fun s hs => ?_).trans ?_
  · obtain ⟨bk, -, rfl⟩ := Finset.mem_map.mp hs
    exact Finset.mem_erase.mpr ⟨show SemLoc.dma _ ≠ SemLoc.reg _ from nofun, Finset.mem_univ _⟩
  · rw [bigSep_map]
    exact Entails.of_eq (bigSep_congr fun bk _ => congrArg _ (launch_recv bk.1 c bk.2))

end Cert.KProof

end
-- ==== Proof.Run.lean ====
/-
# The run

At four devices, for any float values, from any memory with zero counters: every weakly fair execution of @main ends, with
the result array of every device at `outAt`, its arguments as they were, and every semaphore counter at zero.
-/
module

public import proofs.«01_k».proof.Proof.Deal
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

/-! ## Into the region and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  imodintro
  unfold start G'
  isplitl
  · isplitl [HG]; · iexact HG
    isplitl [Hcr]; · iapply (creds (F := F) c); iexact Hcr
    iexact Hlev
  · iempintro

theorem scratch_eq (c : Dev nD) :
    (Pipeline.scopedRest (Ix := Unit) (Name := ℕ) (U := UU) (Lvl := ℕ) (Val := Elt F) spec0 c : sProp 𝕄) = scratch c := by
  rw [scopedRest0_eq]
  unfold scratch bufAny bufPts
  simp only [Memref.view_whole, View.set_whole]

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  show iprop(start m c ∗ _ ∗ Pipeline.scopedRest spec0 c) ⊢ iprop(start m c ∗ scratch c)
  rw [scratch_eq]
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  show iprop(scratch c ∗ closedAll c) ⊢ iprop(unscopedSems0 c ∗ Pipeline.ownSems0 osem c ∗ Pipeline.scopedRest spec0 c)
  rw [scratch_eq, unscopedSems0_eq]
  unfold closedAll Pipeline.ownSems0
  iintro ⟨Hr, HB, HS⟩
  isplitl [HB]; · iexact HB
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_staging c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def AllFinal : PUnit × MemSt nD τ sig (Elt F) → Prop := fun r =>
  ∀ c : Dev nD, ∀ w : Fin cfg0.W, r.2.mem ((cfg0.win w).arr.view.loc (c : Thread nD τ)) = finalA m ρ c w

set_option maxRecDepth 8000 in
theorem run_main : θ_run defs (onTc (τ := τ) (main (F := F))) (s₀ m ρ) (fun r => AllFinal m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after it -/

theorem final_dy (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

end Cert.KProof

end
-- ==== Proof.Product.lean ====
/-
# One block: a device's product, at an entry

At the exact instance, entry `(r, j)` of the product device `c` computes is the inner product, over its 4096 columns, of row
`512 (c % 2) + r` of its block of `dy` and row `j` of its block of `w`.
-/
module

public import proofs.«01_k».proof.Proof.Values
public import Idealize.ShloMosaic.Lib.Pointwise
public import Idealize.ShloMosaic.Lib.Pipeline.Value

@[expose] public section

noncomputable section

namespace Cert.KProof

open Cert.KernelIdeal Cert.KernelIdeal.Gen
open Idealize.ShloMosaic
open Idealize.ShloMosaic.TcCoe
open Idealize.SL.Sem

theorem zero_off : (![0, 0] : Fin 2 → Nat) = fun _ => 0 := funext fun a => by fin_cases a <;> rfl

section Staged
variable {F : FTy → Type} [FloatOps F] (m : (ℓ : Loc nD τ sig) → Buf (Elt F) ℓ) (c : Dev nD)

/-- The staged blocks are the arguments. -/
theorem dyAt_eq : dyAt m c = m ((c : Thread nD τ).loc main_arg0) :=
  Memref.read_access_unit_zero (Elt F) main_arg0 (funext fun a => by fin_cases a <;> decide) _ _
theorem wAt_eq : wAt m c = m ((c : Thread nD τ).loc main_arg1) :=
  Memref.read_access_unit_zero (Elt F) main_arg1 (funext fun a => by fin_cases a <;> decide) _ _

/-- The load of `dy`'s rows, at an entry; the load of `w` is of all of it. -/
theorem load_dy (X : (cc0_stg0_0 : Ref sig .tc).ty.Contents (Elt F)) (r : Fin 512) (k : Fin 4096) :
    dyM.view.readAt (Elt F) (dyR c).toLoadRect X (ix2 r k) = X (ix2 ⟨512 * (c.val % 2) + r.val, by omega⟩ k) := by
  show X _ = X _
  congr 1
  funext a
  apply Fin.ext
  match a with
  | ⟨0, _⟩ =>
    show k0_off1 c 0 + 1 * r.val = _
    rw [k0_off1_eq]
    show 512 * (c.val % 2) + 1 * r.val = 512 * (c.val % 2) + r.val
    omega
  | ⟨1, _⟩ =>
    show k0_off1 c 1 + 1 * k.val = k.val
    rw [k0_off1_eq]
    show 0 + 1 * k.val = k.val
    omega
theorem load_w (X : (cc0_stg1_0 : Ref sig .tc).ty.Contents (Elt F)) : wM.view.readAt (Elt F) wR.toLoadRect X = X :=
  Memref.readAt_unit_zero (Elt F) cc0_stg1_0 zero_off _ X

end Staged

/-- A product of 512 rows with 1024 rows, at an entry. -/
theorem pay_apply (x : Vec Ideal S512x4096 .f32) (w : Vec Ideal S1024x4096 .f32) (r : Fin 512) (j : Fin 1024) :
    k0_pay1 x w (ix2 r j) = ∑ k : Fin 4096, x (ix2 r k) * w (ix2 j k) := by
  pointwise [k0_pay1]

variable (m : (ℓ : Loc nD τ sig) → Buf (Elt Ideal) ℓ) (c : Dev nD)

/-- A device's block of `dy`, and its block of `w`. -/
def blockDy : FVec Ideal S1024x4096 .f32 := m ((c : Thread nD τ).loc main_arg0)
def blockW : FVec Ideal S1024x4096 .f32 := m ((c : Thread nD τ).loc main_arg1)

/-- Row `r` of device `c`'s block of `dy` against row `j` of its block of `w`. -/
def inner (r j : Fin 1024) : EReal := ∑ k : Fin 4096, blockDy m c (ix2 r k) * blockW m c (ix2 j k)

theorem prod_apply (r : Fin 512) (j : Fin 1024) :
    prodAt m c (ix2 r j) = inner m c ⟨512 * (c.val % 2) + r.val, by omega⟩ j := by
  unfold prodAt inner
  rw [pay_apply, load_w, dyAt_eq, wAt_eq]
  exact Finset.sum_congr rfl fun k _ => by rw [load_dy]; rfl

end Cert.KProof

end
-- ==== Proof.Final.lean ====
/-
# The result array after the run

The output window is the whole result array, written out once after the body, so the array ends at `outAt`.
-/
module

public import proofs.«01_k».proof.Proof.Run
public import proofs.«01_k».proof.Proof.Product

@[expose] public section

noncomputable section

namespace Cert.KProof

open Cert.KernelIdeal Cert.KernelIdeal.Gen
open Idealize.ShloMosaic
open Idealize.ShloMosaic.TcCoe
open Idealize.SL.Sem

variable {F : FTy → Type} [FloatOps F] (m : (ℓ : Loc nD τ sig) → Buf (Elt F) ℓ) (ρ : Dev nD → PrngReg)

theorem flushed_out (c : Dev nD) (t : Fin cfg0.N) :
    (dats m ρ 0 c).flushed 2 t = ((cfg0.win 2).blk t).view.read (Elt F) (outAt m c) := by
  obtain rfl := fin_N0 t
  show (cfg0.win 2).cut (grid0.coords t0_0) ((dats m ρ 0 c).after 2 t0_0) = _
  have hz : (fun a => win0_2.index t0_0 a * main_v1.ty.shape.size a) = fun _ => 0 := funext fun a => by fin_cases a <;> decide
  exact (Memref.read_access_unit_zero (Elt F) main_v1 hz (fun a => by rw [congrFun hz a]; simp) (outAt m c)).symm

theorem final_out (c : Dev nD) : finalA m ρ c (2 : Fin 3) = outAt m c :=
  (dats m ρ 0 c).arrAt_eq_of_cover 2 (outAt m c) (fun t _ => flushed_out m ρ c t) fun i =>
    ⟨t0_0, flush0_2 t0_0, by
      show i ∈ ((View.whole main_v1).slice (win0_2.rect t0_0)).set
      rw [View.set_slice_whole, Rect.mem_set_unit]
      intro a
      have h0 : (i 0 : Nat) < 1024 := (i 0).isLt
      have h1 : (i 1 : Nat) < 1024 := (i 1).isLt
      match a with
      | ⟨0, _⟩ => exact ⟨Nat.zero_le _, by show (i 0 : Nat) < 0 * 1024 + 1024; omega⟩
      | ⟨1, _⟩ => exact ⟨Nat.zero_le _, by show (i 1 : Nat) < 0 * 1024 + 1024; omega⟩⟩

/-- The run, read: on every device the result at `outAt` and both arguments as launched, and every counter at zero. -/
theorem run_read : θ_run defs (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨(h.1 c 2).trans (final_out m ρ c), (h.1 c 0).trans (final_dy m ρ c), (h.1 c 1).trans (final_w m ρ c)⟩, h.2⟩)
    (run_main m ρ)

end Cert.KProof

end
-- ==== Proof.Entry.lean ====
/-
# The array: a device's result, at an entry

At the exact instance a chunk travels unchanged, so entry `(r, j)` of every device's result is two inner products added:
that of the device on whose half row `r` lies and that of its neighbour along the first axis.
-/
module

public import proofs.«01_k».proof.Proof.Product

@[expose] public section

noncomputable section

namespace Cert.KProof

open Cert.KernelIdeal Cert.KernelIdeal.Gen
open Idealize.ShloMosaic
open Idealize.ShloMosaic.TcCoe
open Idealize.SL.Sem

variable (m : (ℓ : Loc nD τ sig) → Buf (Elt Ideal) ℓ) (c : Dev nD)

theorem part_apply (k : Fin 8) (p : FVec Ideal S512x1024 .f32) (r : Fin 64) (j : Fin 1024) :
    part k p (ix2 r j) = p (ix2 ⟨64 * k.val + r.val, by omega⟩ j) := by
  pointwise [part]

/-- Packed and unpacked, a chunk is as it was. -/
theorem unpack_pack (v : FVec Ideal S64x1024 .f32) : unpack (pack v) = v := by
  funext i
  pointwise [unpack, pack]

/-- Row `64 k + r` of the own half. -/
theorem own_apply (k : Fin 8) (r : Fin 64) (j : Fin 1024) :
    ownAt m c k (ix2 r j) = inner m c ⟨512 * (c.val % 2) + (64 * k.val + r.val), by omega⟩ j
      + inner m (nb false c) ⟨512 * (c.val % 2) + (64 * k.val + r.val), by omega⟩ j := by
  have h : (nb false c).val % 2 = c.val % 2 := by
    show (xn c).val % 2 = _
    rw [xn_val]; revert c; decide
  unfold ownAt
  rw [unpack_pack]
  show part k (prodAt m c) (ix2 r j) + part k (prodAt m (nb false c)) (ix2 r j) = _
  rw [part_apply, part_apply, prod_apply, prod_apply]
  simp only [h]

theorem far_eq (k : Fin 8) : farAt m c k = ownAt m (nb true c) k := by
  unfold farAt sentAt
  exact unpack_pack _

/-- The device on whose half row `r` lies: `c` or its neighbour along the second axis. -/
def holder (r : Fin 1024) : Dev nD := if r.val / 512 = c.val % 2 then c else nb true c

theorem holder_side (r : Fin 1024) : (holder c r).val % 2 = r.val / 512 := by
  have hr : r.val / 512 < 2 := by omega
  have h : (nb true c).val % 2 = 1 - c.val % 2 := by
    show (yn c).val % 2 = _
    rw [yn_val]; revert c; decide
  unfold holder
  split
  · exact Eq.symm ‹_›
  · rw [h]; omega

theorem out_apply (r j : Fin 1024) :
    (outAt m c : Vec Ideal S1024x1024 .f32) (ix2 r j) = inner m (holder c r) r j + inner m (nb false (holder c r)) r j := by
  have key (d : Dev nD) (hd : d.val % 2 = r.val / 512) :
      ownAt m d ⟨r.val / 64 % 8, Nat.mod_lt _ (by decide)⟩ (ix2 ⟨r.val % 64, Nat.mod_lt _ (by decide)⟩ j) = inner m d r j + inner m (nb false d) r j := by
    rw [own_apply]
    have e : (⟨512 * (d.val % 2) + (64 * (r.val / 64 % 8) + r.val % 64), by omega⟩ : Fin 1024) = r := Fin.ext (by dsimp only; omega)
    rw [e]
  rw [← key _ (holder_side c r)]
  have hi (x : Fin 64) : chunkIdx x j = ix2 x j := by funext a; match a with | ⟨0, _⟩ => rfl | ⟨1, _⟩ => rfl
  unfold outAt holder
  show (if r.val / 512 = c.val % 2 then ownAt m c _ (chunkIdx _ j) else farAt m c _ (chunkIdx _ j)) = _
  rw [far_eq, hi]
  split <;> rfl

end Cert.KProof

end
-- ==== Proof.Reference.lean ====
/-
# The reference, at an entry

Entry `(i, j)` of `dy @ W.T` is the inner product, over all 8192 columns, of row `i` of `dy` and row `j` of `W`.
-/
module

public import proofs.«01_k».proof.Proof.Gen.ReferenceIdeal.Run
public import Idealize.ShloMosaic.Lib.Pointwise
public import Idealize.ShloMosaic.Lib.Quiescent

@[expose] public section

noncomputable section

namespace Cert.KProof

open Cert.ReferenceIdeal Cert.ReferenceIdeal.Gen
open Idealize.ShloMosaic
open Idealize.ShloMosaic.TcCoe
open Idealize.SL.Sem

/-- The reference's result from its two arguments. -/
def refOut (x w : FVec Ideal S1024x8192 .f32) : FVec Ideal S1024x1024 .f32 :=
  Host.dotGeneral dot_S1024x8192_S8192x1024_S1024x1024_1_0_0_1_n_n none x (transpose S8192x1024 [1, 0] w transposes_S1024x8192_S8192x1024_1_0)

theorem ref_apply (x w : FVec Ideal S1024x8192 .f32) (i j : Fin 1024) :
    refOut x w (ix2 i j) = ∑ k : Fin 8192, x (ix2 i k) * w (ix2 j k) := by
  pointwise [refOut]

/-- The reference runs, ends at `refOut` of its arguments, which it leaves as they were; it has no semaphore. -/
theorem ref_run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_v1) = refOut (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun r h => ⟨h, sem_eq_zero_of_no_sems rfl r.2⟩) (Cert.ReferenceIdeal.Value.run m ρ)

end Cert.KProof

end
-- ==== Proof.Equation.lean ====
/-
# The equation

Device `c` holds columns `4096 (c / 2)` and on of `dy` and of `W`. Its neighbour along the first axis holds the other half of
the columns, so their two inner products add up to the one over all 8192 columns: the reference's entry.
-/
module

public import proofs.«01_k».proof.Proof.Entry
public import proofs.«01_k».proof.Proof.Reference
public import Idealize.ShloMosaic.Lib.Layout

@[expose] public section

noncomputable section

namespace Cert.KProof

open Cert.KernelIdeal Cert.KernelIdeal.Gen
open Cert.ReferenceIdeal (S1024x8192)
open Idealize.ShloMosaic
open Idealize.ShloMosaic.TcCoe
open Idealize.SL.Sem

/-- The half device `c` holds: all the rows, and columns `4096 (c / 2)` and on. -/
theorem blk (c : Dev nD) :
    ((Layout.meshBlock [2, 2] ![[], [0]] c : (b : Fin 2) → Fin _) 0).val = 0
    ∧ ((Layout.meshBlock [2, 2] ![[], [0]] c : (b : Fin 2) → Fin _) 1).val = c.val / 2 := by
  revert c; decide

/-- A half of the columns of a 1024 by 8192 array, at an entry. -/
theorem half_apply (c : Dev nD) (v : FVec Ideal S1024x8192 .f32) (r : Fin 1024) (k : Fin 4096) :
    (Layout.blockN ⟨2, ![1024, 4096]⟩ ⟨2, ![1024, 8192]⟩ (Layout.meshBlock [2, 2] ![[], [0]] c) v : FVec Ideal S1024x4096 .f32) (ix2 r k)
      = v (ix2 r ⟨4096 * (c.val / 2) + k.val, by have := c.isLt; have : nD = 4 := rfl; omega⟩) := by
  rw [Layout.blockN_apply]
  congr 1
  funext b
  apply Fin.ext
  rw [Layout.TilesN.idx_val]
  have hj := blk c
  match b with
  | ⟨0, _⟩ => exact (congrArg (· * 1024 + r.val) hj.1).trans (show 0 * 1024 + r.val = r.val by omega)
  | ⟨1, _⟩ => exact (congrArg (· * 4096 + k.val) hj.2).trans (show c.val / 2 * 4096 + k.val = 4096 * (c.val / 2) + k.val by omega)

/-- Every device holds its half of the columns of `x` and of `w`. -/
def Halves (m : (ℓ : Loc nD τ sig) → Buf (Elt Ideal) ℓ) (x w : FVec Ideal S1024x8192 .f32) : Prop :=
  ∀ c : Dev nD,
    blockDy m c = Layout.blockN ⟨2, ![1024, 4096]⟩ ⟨2, ![1024, 8192]⟩ (Layout.meshBlock [2, 2] ![[], [0]] c) x
    ∧ blockW m c = Layout.blockN ⟨2, ![1024, 4096]⟩ ⟨2, ![1024, 8192]⟩ (Layout.meshBlock [2, 2] ![[], [0]] c) w

variable {m : (ℓ : Loc nD τ sig) → Buf (Elt Ideal) ℓ} {x w : FVec Ideal S1024x8192 .f32}

/-- Row `r` of `x` against row `j` of `w`, over the half of the columns that starts at `4096 h`. -/
def halfSum (x w : FVec Ideal S1024x8192 .f32) (r j : Fin 1024) (h : Fin 2) : EReal :=
  ∑ k : Fin 4096, x (ix2 r ⟨4096 * h.val + k.val, by omega⟩) * w (ix2 j ⟨4096 * h.val + k.val, by omega⟩)

theorem inner_eq (H : Halves m x w) (c : Dev nD) (r j : Fin 1024) {h : Fin 2} (hc : c.val / 2 = h.val) :
    inner m c r j = halfSum x w r j h := by
  unfold inner halfSum
  refine Finset.sum_congr rfl fun k _ => ?_
  rw [(H c).1, (H c).2, half_apply, half_apply]
  simp only [hc]

/-- The two halves add up. -/
theorem halves_sum (r j : Fin 1024) : halfSum x w r j 0 + halfSum x w r j 1 = refOut x w (ix2 r j) := by
  rw [ref_apply, Fin.sum_univ_two_halves 4096 4096 rfl]
  have e (k : Fin 4096) : (⟨4096 * (0 : Fin 2).val + k.val, by omega⟩ : Fin 8192) = ⟨k.val, by omega⟩ :=
    Fin.ext (show 4096 * 0 + k.val = k.val by omega)
  have e' (k : Fin 4096) : (⟨4096 * (1 : Fin 2).val + k.val, by omega⟩ : Fin 8192) = ⟨4096 + k.val, by omega⟩ :=
    Fin.ext (show 4096 * 1 + k.val = 4096 + k.val by omega)
  unfold halfSum
  exact congrArg₂ (· + ·) (Finset.sum_congr rfl fun k _ => by rw [e]) (Finset.sum_congr rfl fun k _ => by rw [e'])

/-- A device and its neighbour along the first axis hold the two halves, in one order or the other. -/
theorem pair_sum (H : Halves m x w) (c : Dev nD) (r j : Fin 1024) :
    inner m c r j + inner m (nb false c) r j = refOut x w (ix2 r j) := by
  have hn : (nb false c).val / 2 = 1 - c.val / 2 := by
    show (xn c).val / 2 = _
    rw [xn_val]; revert c; decide
  have hc : c.val / 2 = 0 ∨ c.val / 2 = 1 := by revert c; decide
  rcases hc with h | h
  · rw [inner_eq H c r j (h := 0) h, inner_eq H (nb false c) r j (h := 1) (by rw [hn, h]; rfl), halves_sum]
  · rw [inner_eq H c r j (h := 1) h, inner_eq H (nb false c) r j (h := 0) (by rw [hn, h]; rfl), add_comm, halves_sum]

/-- Every device's result is the reference's. -/
theorem out_eq (H : Halves m x w) (c : Dev nD) : (outAt m c : FVec Ideal S1024x1024 .f32) = refOut x w := by
  funext i
  rw [eq_ix2 i]
  exact (out_apply m c _ _).trans (pair_sum H _ _ _)

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The two texts of the kernel have the same table of bodies: the one body, at the one label. -/
theorem body_table : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

theorem table : Cert.Kernel.defs (F := Bits) = Cert.KernelIdeal.defs (F := Bits) :=
  congrArg (Pipeline.defs (Cert.KernelIdeal.pcfgs (F := Bits))) body_table

/-- The kernel runs, leaves its arguments as they were and every counter at zero: its text is the idealized one's, whose run
    is read at any float values. -/
theorem frame_kernel : Cert.quiescent_Kernel := fun m ρ _ => by
  rw [table]
  exact (θ_run Cert.KernelIdeal.defs _ _).mono (fun _ h => ⟨fun c => (h.1 c).2, h.2⟩) (KProof.run_read (F := Bits) m ρ)

/-- The same of the kernel at exact arithmetic. -/
theorem frame_ideal : Cert.quiescent_KernelIdeal := fun m ρ _ =>
  (θ_run Cert.KernelIdeal.defs _ _).mono (fun _ h => ⟨fun c => (h.1 c).2, h.2⟩) (KProof.run_read (F := Ideal) m ρ)

/-- The same of the reference. -/
theorem frame_reference : Cert.quiescent_ReferenceIdeal := fun m ρ _ =>
  (θ_run Cert.ReferenceIdeal.defs _ _).mono (fun _ h => ⟨fun c => (h.1 c).2, h.2⟩) (KProof.ref_run m ρ)

/-- At exact arithmetic every device's result is the reference's on the whole arrays. -/
theorem algebraic : Cert.algebraic_KernelIdeal_ReferenceIdeal := fun m g m' g' _ H =>
  ⟨_, (θ_run Cert.KernelIdeal.defs _ _).mono (fun _ h c => ⟨(h.1 c).1.trans (KProof.out_eq H c), (h.1 c).2⟩) (KProof.run_read (F := Ideal) m g),
    (θ_run Cert.ReferenceIdeal.defs _ _).mono (fun _ h => h.1 0) (KProof.ref_run m' g')⟩

theorem claim : Cert.Claim := ⟨Cert.Kernel.Gen.facts, Cert.KernelIdeal.Gen.facts, Cert.ReferenceIdeal.Gen.facts,
  frame_kernel, frame_ideal, frame_reference, trivial, algebraic⟩

end Cert.Proof

end
